-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v45)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v45) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v107) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4096x2 : Shape := ⟨2, ![4096, 2]⟩
abbrev S4096x3 : Shape := ⟨2, ![4096, 3]⟩
abbrev S4096 : Shape := ⟨1, ![4096]⟩
abbrev S_ : Shape := ⟨0, ![]⟩
abbrev S4096x1 : Shape := ⟨2, ![4096, 1]⟩
abbrev S32x128 : Shape := ⟨2, ![32, 128]⟩
abbrev S256x256x3 : Shape := ⟨3, ![256, 256, 3]⟩
abbrev S1x256x3 : Shape := ⟨3, ![1, 256, 3]⟩
abbrev S256x1 : Shape := ⟨2, ![256, 1]⟩
abbrev S256x3 : Shape := ⟨2, ![256, 3]⟩
abbrev S1x256x1 : Shape := ⟨3, ![1, 256, 1]⟩
abbrev S1 : Shape := ⟨1, ![1]⟩
abbrev S1x1x1 : Shape := ⟨3, ![1, 1, 1]⟩
abbrev S1x128 : Shape := ⟨2, ![1, 128]⟩
abbrev S256x128 : Shape := ⟨2, ![256, 128]⟩
abbrev S256x127 : Shape := ⟨2, ![256, 127]⟩
abbrev S256x2 : Shape := ⟨2, ![256, 2]⟩
abbrev S256x126 : Shape := ⟨2, ![256, 126]⟩
abbrev S256x4 : Shape := ⟨2, ![256, 4]⟩
abbrev S256x124 : Shape := ⟨2, ![256, 124]⟩
abbrev S256x8 : Shape := ⟨2, ![256, 8]⟩
abbrev S256x120 : Shape := ⟨2, ![256, 120]⟩
abbrev S256x16 : Shape := ⟨2, ![256, 16]⟩
abbrev S256x112 : Shape := ⟨2, ![256, 112]⟩
abbrev S256x32 : Shape := ⟨2, ![256, 32]⟩
abbrev S256x96 : Shape := ⟨2, ![256, 96]⟩
abbrev S256x64 : Shape := ⟨2, ![256, 64]⟩
abbrev S128x3 : Shape := ⟨2, ![128, 3]⟩

abbrev nBuf : Space → Nat
  | .hbm => 61
  | .vmem => 9
  | .smem => 0
  | _ => 0

abbrev bufTy : (tb : Table) → Fin (tcTables nBuf tb) → BufTy
  | .hbm, ⟨0, _⟩ => ⟨S4096x2, .f32⟩
  | .hbm, ⟨1, _⟩ => ⟨S4096x3, .f32⟩
  | .hbm, ⟨2, _⟩ => ⟨S4096x3, .f32⟩
  | .hbm, ⟨3, _⟩ => ⟨S4096, .f32⟩
  | .hbm, ⟨4, _⟩ => ⟨S4096, .f32⟩
  | .hbm, ⟨5, _⟩ => ⟨S4096, .i32⟩
  | .hbm, ⟨6, _⟩ => ⟨S4096, .f32⟩
  | .hbm, ⟨7, _⟩ => ⟨S4096, .i32⟩
  | .hbm, ⟨8, _⟩ => ⟨S_, .i32⟩
  | .hbm, ⟨9, _⟩ => ⟨S4096, .i32⟩
  | .hbm, ⟨10, _⟩ => ⟨S4096, .i1⟩
  | .hbm, ⟨11, _⟩ => ⟨S_, .i32⟩
  | .hbm, ⟨12, _⟩ => ⟨S4096, .i32⟩
  | .hbm, ⟨13, _⟩ => ⟨S4096, .i32⟩
  | .hbm, ⟨14, _⟩ => ⟨S4096, .i32⟩
  | .hbm, ⟨15, _⟩ => ⟨S4096x1, .i32⟩
  | .hbm, ⟨16, _⟩ => ⟨S4096x2, .f32⟩
  | .hbm, ⟨17, _⟩ => ⟨S_, .i32⟩
  | .hbm, ⟨18, _⟩ => ⟨S4096, .i32⟩
  | .hbm, ⟨19, _⟩ => ⟨S4096, .i1⟩
  | .hbm, ⟨20, _⟩ => ⟨S_, .i32⟩
  | .hbm, ⟨21, _⟩ => ⟨S4096, .i32⟩
  | .hbm, ⟨22, _⟩ => ⟨S4096, .i32⟩
  | .hbm, ⟨23, _⟩ => ⟨S4096, .i32⟩
  | .hbm, ⟨24, _⟩ => ⟨S4096x1, .i32⟩
  | .hbm, ⟨25, _⟩ => ⟨S4096x3, .f32⟩
  | .hbm, ⟨26, _⟩ => ⟨S_, .i32⟩
  | .hbm, ⟨27, _⟩ => ⟨S4096, .i32⟩
  | .hbm, ⟨28, _⟩ => ⟨S4096, .i1⟩
  | .hbm, ⟨29, _⟩ => ⟨S_, .i32⟩
  | .hbm, ⟨30, _⟩ => ⟨S4096, .i32⟩
  | .hbm, ⟨31, _⟩ => ⟨S4096, .i32⟩
  | .hbm, ⟨32, _⟩ => ⟨S4096, .i32⟩
  | .hbm, ⟨33, _⟩ => ⟨S4096x1, .i32⟩
  | .hbm, ⟨34, _⟩ => ⟨S4096x3, .f32⟩
  | .hbm, ⟨35, _⟩ => ⟨S_, .i32⟩
  | .hbm, ⟨36, _⟩ => ⟨S4096, .i32⟩
  | .hbm, ⟨37, _⟩ => ⟨S4096, .i1⟩
  | .hbm, ⟨38, _⟩ => ⟨S_, .i32⟩
  | .hbm, ⟨39, _⟩ => ⟨S4096, .i32⟩
  | .hbm, ⟨40, _⟩ => ⟨S4096, .i32⟩
  | .hbm, ⟨41, _⟩ => ⟨S4096, .i32⟩
  | .hbm, ⟨42, _⟩ => ⟨S4096x1, .i32⟩
  | .hbm, ⟨43, _⟩ => ⟨S4096, .f32⟩
  | .hbm, ⟨44, _⟩ => ⟨S4096x1, .f32⟩
  | .hbm, ⟨45, _⟩ => ⟨S4096, .f32⟩
  | .hbm, ⟨46, _⟩ => ⟨S32x128, .f32⟩
  | .hbm, ⟨47, _⟩ => ⟨S4096x1, .f32⟩
  | .hbm, ⟨48, _⟩ => ⟨S4096, .f32⟩
  | .hbm, ⟨49, _⟩ => ⟨S32x128, .f32⟩
  | .hbm, ⟨50, _⟩ => ⟨S4096x1, .f32⟩
  | .hbm, ⟨51, _⟩ => ⟨S4096, .f32⟩
  | .hbm, ⟨52, _⟩ => ⟨S32x128, .f32⟩
  | .hbm, ⟨53, _⟩ => ⟨S4096x1, .f32⟩
  | .hbm, ⟨54, _⟩ => ⟨S4096, .f32⟩
  | .hbm, ⟨55, _⟩ => ⟨S32x128, .f32⟩
  | .hbm, ⟨56, _⟩ => ⟨S4096x1, .f32⟩
  | .hbm, ⟨57, _⟩ => ⟨S4096, .f32⟩
  | .hbm, ⟨58, _⟩ => ⟨S32x128, .f32⟩
  | .hbm, ⟨59, _⟩ => ⟨S32x128, .f32⟩
  | .hbm, ⟨60, _⟩ => ⟨S256x256x3, .f32⟩
  | .local _ .vmem, ⟨0, _⟩ => ⟨S32x128, .f32⟩
  | .local _ .vmem, ⟨1, _⟩ => ⟨S32x128, .f32⟩
  | .local _ .vmem, ⟨2, _⟩ => ⟨S32x128, .f32⟩
  | .local _ .vmem, ⟨3, _⟩ => ⟨S32x128, .f32⟩
  | .local _ .vmem, ⟨4, _⟩ => ⟨S32x128, .f32⟩
  | .local _ .vmem, ⟨5, _⟩ => ⟨S32x128, .f32⟩
  | .local _ .vmem, ⟨6, _⟩ => ⟨S4096x3, .f32⟩
  | .local _ .vmem, ⟨7, _⟩ => ⟨S1x256x3, .f32⟩
  | .local _ .vmem, ⟨8, _⟩ => ⟨S1x256x3, .f32⟩
  | _, _ => ⟨S4096x2, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_call0_v0 : Ref sig .tc := ⟨.hbm, 5, rfl⟩
abbrev main_call0_v1_0 : Ref sig .tc := ⟨.hbm, 6, rfl⟩
abbrev main_v0 : Ref sig .tc := ⟨.hbm, 7, rfl⟩
abbrev main_c : Ref sig .tc := ⟨.hbm, 8, rfl⟩
abbrev main_v1 : Ref sig .tc := ⟨.hbm, 9, rfl⟩
abbrev main_v2 : Ref sig .tc := ⟨.hbm, 10, rfl⟩
abbrev main_c_0 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_c_1 : Ref sig .tc := ⟨.hbm, 17, rfl⟩
abbrev main_v8 : Ref sig .tc := ⟨.hbm, 18, rfl⟩
abbrev main_v9 : Ref sig .tc := ⟨.hbm, 19, rfl⟩
abbrev main_c_2 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_c_3 : Ref sig .tc := ⟨.hbm, 26, rfl⟩
abbrev main_v15 : Ref sig .tc := ⟨.hbm, 27, rfl⟩
abbrev main_v16 : Ref sig .tc := ⟨.hbm, 28, rfl⟩
abbrev main_c_4 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_c_5 : Ref sig .tc := ⟨.hbm, 35, rfl⟩
abbrev main_v22 : Ref sig .tc := ⟨.hbm, 36, rfl⟩
abbrev main_v23 : Ref sig .tc := ⟨.hbm, 37, rfl⟩
abbrev main_c_6 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg7_1 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem7_1 : DmaSem sig := 8

abbrev nD : Nat := 1
abbrev τ : Topo := Topo.v7x

variable {F : FTy → Type} [FloatOps F]

abbrev grid0 : Pipeline.Grid := ⟨1, ![256], ![false]⟩

def k0_off1 (arg9 : BitVec 32) : Fin 2 → Nat :=
  let v12 : Index := Scalar.indexCast arg9
  let c0_5 : Index := 0#32
  ![v12.toNat, 0]

def k0_off2 (arg9 : BitVec 32) : Fin 2 → Nat :=
  let c128_i32 : BitVec 32 := 128#32
  let v105 : BitVec 32 := Scalar.muli arg9 c128_i32
  let v106 : Index := Scalar.indexCast v105
  let c0_28 : Index := 0#32
  ![v106.toNat, 0]

def k0_chk1 (arg9 : BitVec 32) : Prop :=
  (∀ a, (k0_off1 arg9) a + S1x128.size a ≤ S32x128.size a) ∧
  (∀ a, (k0_off2 arg9) a + S128x3.size a ≤ S4096x3.size a)
theorem k0_off1_inb : ∀ (arg9 : BitVec 32) (k0_hw1 : k0_chk1 arg9), ∀ a, (k0_off1 arg9) a + S1x128.size a ≤ S32x128.size a := fun arg9 k0_hw1 => k0_hw1.1
theorem k0_off2_inb : ∀ (arg9 : BitVec 32) (k0_hw1 : k0_chk1 arg9), ∀ a, (k0_off2 arg9) a + S128x3.size a ≤ S4096x3.size a := fun arg9 k0_hw1 => k0_hw1.2

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S32x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S32x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S32x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S32x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S32x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S32x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S4096x3 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S1x256x3 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== ReferenceIdeal.lean ====
abbrev S4096x2 : Shape := ⟨2, ![4096, 2]⟩
abbrev S4096x3 : Shape := ⟨2, ![4096, 3]⟩
abbrev S4096 : Shape := ⟨1, ![4096]⟩
abbrev S_ : Shape := ⟨0, ![]⟩
abbrev S4096x1 : Shape := ⟨2, ![4096, 1]⟩
abbrev S256 : Shape := ⟨1, ![256]⟩
abbrev S4096x1x1 : Shape := ⟨3, ![4096, 1, 1]⟩
abbrev S1x1x256 : Shape := ⟨3, ![1, 1, 256]⟩
abbrev S4096x1x256 : Shape := ⟨3, ![4096, 1, 256]⟩
abbrev S1x256x1 : Shape := ⟨3, ![1, 256, 1]⟩
abbrev S4096x256x1 : Shape := ⟨3, ![4096, 256, 1]⟩
abbrev S4096x256x256 : Shape := ⟨3, ![4096, 256, 256]⟩
abbrev S256x256 : Shape := ⟨2, ![256, 256]⟩
abbrev S1x256x256 : Shape := ⟨3, ![1, 256, 256]⟩
abbrev S4095x256x256 : Shape := ⟨3, ![4095, 256, 256]⟩
abbrev S3 : Shape := ⟨1, ![3]⟩
abbrev S256x256x3 : Shape := ⟨3, ![256, 256, 3]⟩
abbrev S256x256x1 : Shape := ⟨3, ![256, 256, 1]⟩
abbrev S1x1x3 : Shape := ⟨3, ![1, 1, 3]⟩

abbrev nBuf : Space → Nat
  | .hbm => 167
  | .vmem => 0
  | .smem => 0
  | _ => 0

abbrev hbmTy0_0 (i : Nat) : BufTy := match i % 128 with
  | 0 => ⟨S4096x2, .f32⟩
  | 1 => ⟨S4096x3, .f32⟩
  | 2 => ⟨S4096x3, .f32⟩
  | 3 => ⟨S4096, .f32⟩
  | 4 => ⟨S4096, .f32⟩
  | 5 => ⟨S4096, .i32⟩
  | 6 => ⟨S4096, .f32⟩
  | 7 => ⟨S4096, .i32⟩
  | 8 => ⟨S_, .i32⟩
  | 9 => ⟨S4096, .i32⟩
  | 10 => ⟨S4096, .i1⟩
  | 11 => ⟨S_, .i32⟩
  | 12 => ⟨S4096, .i32⟩
  | 13 => ⟨S4096, .i32⟩
  | 14 => ⟨S4096, .i32⟩
  | 15 => ⟨S4096x1, .i32⟩
  | 16 => ⟨S4096x2, .f32⟩
  | 17 => ⟨S_, .i32⟩
  | 18 => ⟨S4096, .i32⟩
  | 19 => ⟨S4096, .i1⟩
  | 20 => ⟨S_, .i32⟩
  | 21 => ⟨S4096, .i32⟩
  | 22 => ⟨S4096, .i32⟩
  | 23 => ⟨S4096, .i32⟩
  | 24 => ⟨S4096x1, .i32⟩
  | 25 => ⟨S4096x3, .f32⟩
  | 26 => ⟨S_, .i32⟩
  | 27 => ⟨S4096, .i32⟩
  | 28 => ⟨S4096, .i1⟩
  | 29 => ⟨S_, .i32⟩
  | 30 => ⟨S4096, .i32⟩
  | 31 => ⟨S4096, .i32⟩
  | 32 => ⟨S4096, .i32⟩
  | 33 => ⟨S4096x1, .i32⟩
  | 34 => ⟨S4096x3, .f32⟩
  | 35 => ⟨S_, .i32⟩
  | 36 => ⟨S4096, .i32⟩
  | 37 => ⟨S4096, .i1⟩
  | 38 => ⟨S_, .i32⟩
  | 39 => ⟨S4096, .i32⟩
  | 40 => ⟨S4096, .i32⟩
  | 41 => ⟨S4096, .i32⟩
  | 42 => ⟨S4096x1, .i32⟩
  | 43 => ⟨S4096, .f32⟩
  | 44 => ⟨S256, .f32⟩
  | 45 => ⟨S_, .f32⟩
  | 46 => ⟨S256, .f32⟩
  | 47 => ⟨S256, .f32⟩
  | 48 => ⟨S256, .f32⟩
  | 49 => ⟨S_, .f32⟩
  | 50 => ⟨S256, .f32⟩
  | 51 => ⟨S256, .f32⟩
  | 52 => ⟨S4096x1, .f32⟩
  | 53 => ⟨S4096, .f32⟩
  | 54 => ⟨S4096x1, .f32⟩
  | 55 => ⟨S4096, .f32⟩
  | 56 => ⟨S4096x1, .f32⟩
  | 57 => ⟨S4096, .f32⟩
  | 58 => ⟨S4096x1x1, .f32⟩
  | 59 => ⟨S4096x1x1, .f32⟩
  | 60 => ⟨S4096x1x1, .f32⟩
  | 61 => ⟨S4096x1x1, .f32⟩
  | 62 => ⟨S1x1x256, .f32⟩
  | 63 => ⟨S4096x1, .f32⟩
  | 64 => ⟨S4096, .f32⟩
  | 65 => ⟨S4096x1x1, .f32⟩
  | 66 => ⟨S4096x1x256, .f32⟩
  | 67 => ⟨S4096x1x256, .f32⟩
  | 68 => ⟨S4096x1x256, .f32⟩
  | 69 => ⟨S1x256x1, .f32⟩
  | 70 => ⟨S4096x1, .f32⟩
  | 71 => ⟨S4096, .f32⟩
  | 72 => ⟨S4096x1x1, .f32⟩
  | 73 => ⟨S4096x256x1, .f32⟩
  | 74 => ⟨S4096x256x1, .f32⟩
  | 75 => ⟨S4096x256x1, .f32⟩
  | 76 => ⟨S4096x1x256, .f32⟩
  | 77 => ⟨S4096x1x256, .f32⟩
  | 78 => ⟨S4096x1x256, .f32⟩
  | 79 => ⟨S4096x256x1, .f32⟩
  | 80 => ⟨S4096x256x1, .f32⟩
  | 81 => ⟨S4096x256x1, .f32⟩
  | 82 => ⟨S4096x256x256, .f32⟩
  | 83 => ⟨S4096x256x256, .f32⟩
  | 84 => ⟨S4096x256x256, .f32⟩
  | 85 => ⟨S_, .f32⟩
  | 86 => ⟨S4096x256x256, .f32⟩
  | 87 => ⟨S4096x256x256, .f32⟩
  | 88 => ⟨S4096x1x256, .f32⟩
  | 89 => ⟨S4096x1x256, .f32⟩
  | 90 => ⟨S4096x256x256, .f32⟩
  | 91 => ⟨S4096x256x256, .f32⟩
  | 92 => ⟨S4096x256x256, .f32⟩
  | 93 => ⟨S4096x256x256, .f32⟩
  | 94 => ⟨S4096x256x256, .f32⟩
  | 95 => ⟨S4096x256x256, .f32⟩
  | 96 => ⟨S4096x256x256, .f32⟩
  | 97 => ⟨S4096x256x256, .f32⟩
  | 98 => ⟨S_, .f32⟩
  | 99 => ⟨S4096x256x256, .f32⟩
  | 100 => ⟨S4096x256x256, .f32⟩
  | 101 => ⟨S_, .f32⟩
  | 102 => ⟨S4096x256x256, .f32⟩
  | 103 => ⟨S4096x256x256, .i1⟩
  | 104 => ⟨S_, .f32⟩
  | 105 => ⟨S4096x256x256, .f32⟩
  | 106 => ⟨S4096x256x256, .i1⟩
  | 107 => ⟨S4096x256x256, .i1⟩
  | 108 => ⟨S_, .f32⟩
  | 109 => ⟨S_, .f32⟩
  | 110 => ⟨S4096x256x256, .f32⟩
  | 111 => ⟨S4096x256x256, .f32⟩
  | 112 => ⟨S_, .f32⟩
  | 113 => ⟨S4096x256x256, .f32⟩
  | 114 => ⟨S4096x256x256, .f32⟩
  | 115 => ⟨S_, .f32⟩
  | 116 => ⟨S256x256, .f32⟩
  | 117 => ⟨S_, .f32⟩
  | 118 => ⟨S4096x256x256, .f32⟩
  | 119 => ⟨S_, .i32⟩
  | 120 => ⟨S4096x256x256, .f32⟩
  | 121 => ⟨S_, .i32⟩
  | 122 => ⟨S256x256, .f32⟩
  | 123 => ⟨S256x256, .f32⟩
  | 124 => ⟨S4096x256x256, .f32⟩
  | 125 => ⟨S_, .i32⟩
  | 126 => ⟨S_, .i1⟩
  | 127 => ⟨S_, .i32⟩
  | _ => ⟨S4096x2, .f32⟩

abbrev hbmTy0_1 (i : Nat) : BufTy := match i % 128 with
  | 0 => ⟨S_, .i32⟩
  | 1 => ⟨S1x256x256, .f32⟩
  | 2 => ⟨S256x256, .f32⟩
  | 3 => ⟨S256x256, .f32⟩
  | 4 => ⟨S_, .f32⟩
  | 5 => ⟨S256x256, .f32⟩
  | 6 => ⟨S256x256, .i1⟩
  | 7 => ⟨S_, .f32⟩
  | 8 => ⟨S_, .f32⟩
  | 9 => ⟨S256x256, .f32⟩
  | 10 => ⟨S256x256, .f32⟩
  | 11 => ⟨S256x256, .f32⟩
  | 12 => ⟨S1x256x256, .f32⟩
  | 13 => ⟨S_, .i32⟩
  | 14 => ⟨S_, .i32⟩
  | 15 => ⟨S4096x256x256, .f32⟩
  | 16 => ⟨S_, .i32⟩
  | 17 => ⟨S_, .i32⟩
  | 18 => ⟨S_, .f32⟩
  | 19 => ⟨S1x256x256, .f32⟩
  | 20 => ⟨S4095x256x256, .f32⟩
  | 21 => ⟨S4096x256x256, .f32⟩
  | 22 => ⟨S_, .f32⟩
  | 23 => ⟨S4096x256x256, .f32⟩
  | 24 => ⟨S4096x256x256, .i1⟩
  | 25 => ⟨S4096x256x256, .f32⟩
  | 26 => ⟨S_, .f32⟩
  | 27 => ⟨S_, .f32⟩
  | 28 => ⟨S4096x256x256, .f32⟩
  | 29 => ⟨S4096x256x256, .f32⟩
  | 30 => ⟨S_, .f32⟩
  | 31 => ⟨S3, .f32⟩
  | 32 => ⟨S256x256x3, .f32⟩
  | 33 => ⟨S256x256x1, .f32⟩
  | 34 => ⟨S1x1x3, .f32⟩
  | 35 => ⟨S256x256x3, .f32⟩
  | 36 => ⟨S256x256x3, .f32⟩
  | 37 => ⟨S256x256x3, .f32⟩
  | 38 => ⟨S256x256x3, .f32⟩
  | _ => ⟨S4096x2, .f32⟩

abbrev hbmTy (i : Nat) : BufTy := match i / 128 with
  | 0 => hbmTy0_0 i
  | 1 => hbmTy0_1 i
  | _ => ⟨S4096x2, .f32⟩

abbrev bufTy : (tb : Table) → Fin (tcTables nBuf tb) → BufTy
  | .hbm, ⟨i, _⟩ => hbmTy i
  | _, _ => ⟨S4096x2, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_call0_v0 : Ref sig .tc := ⟨.hbm, 5, rfl⟩
abbrev main_call0_v1_0 : Ref sig .tc := ⟨.hbm, 6, rfl⟩
abbrev main_v0 : Ref sig .tc := ⟨.hbm, 7, rfl⟩
abbrev main_c : Ref sig .tc := ⟨.hbm, 8, rfl⟩
abbrev main_v1 : Ref sig .tc := ⟨.hbm, 9, rfl⟩
abbrev main_v2 : Ref sig .tc := ⟨.hbm, 10, rfl⟩
abbrev main_c_0 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_c_1 : Ref sig .tc := ⟨.hbm, 17, rfl⟩
abbrev main_v8 : Ref sig .tc := ⟨.hbm, 18, rfl⟩
abbrev main_v9 : Ref sig .tc := ⟨.hbm, 19, rfl⟩
abbrev main_c_2 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_c_3 : Ref sig .tc := ⟨.hbm, 26, rfl⟩
abbrev main_v15 : Ref sig .tc := ⟨.hbm, 27, rfl⟩
abbrev main_v16 : Ref sig .tc := ⟨.hbm, 28, rfl⟩
abbrev main_c_4 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_c_5 : Ref sig .tc := ⟨.hbm, 35, rfl⟩
abbrev main_v22 : Ref sig .tc := ⟨.hbm, 36, rfl⟩
abbrev main_v23 : Ref sig .tc := ⟨.hbm, 37, rfl⟩
abbrev main_c_6 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_cst : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_cst_7 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_cst_8 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩
abbrev main_v72 : Ref sig .tc := ⟨.hbm, 90, rfl⟩
abbrev main_v73 : Ref sig .tc := ⟨.hbm, 91, rfl⟩
abbrev main_v74 : Ref sig .tc := ⟨.hbm, 92, rfl⟩
abbrev main_v75 : Ref sig .tc := ⟨.hbm, 93, rfl⟩
abbrev main_v76 : Ref sig .tc := ⟨.hbm, 94, rfl⟩
abbrev main_v77 : Ref sig .tc := ⟨.hbm, 95, rfl⟩
abbrev main_v78 : Ref sig .tc := ⟨.hbm, 96, rfl⟩
abbrev main_v79 : Ref sig .tc := ⟨.hbm, 97, rfl⟩
abbrev main_cst_9 : Ref sig .tc := ⟨.hbm, 98, rfl⟩
abbrev main_v80 : Ref sig .tc := ⟨.hbm, 99, rfl⟩
abbrev main_v81 : Ref sig .tc := ⟨.hbm, 100, rfl⟩
abbrev main_cst_10 : Ref sig .tc := ⟨.hbm, 101, rfl⟩
abbrev main_v82 : Ref sig .tc := ⟨.hbm, 102, rfl⟩
abbrev main_v83 : Ref sig .tc := ⟨.hbm, 103, rfl⟩
abbrev main_cst_11 : Ref sig .tc := ⟨.hbm, 104, rfl⟩
abbrev main_v84 : Ref sig .tc := ⟨.hbm, 105, rfl⟩
abbrev main_v85 : Ref sig .tc := ⟨.hbm, 106, rfl⟩
abbrev main_v86 : Ref sig .tc := ⟨.hbm, 107, rfl⟩
abbrev main_cst_12 : Ref sig .tc := ⟨.hbm, 108, rfl⟩
abbrev main_call1_v0 : Ref sig .tc := ⟨.hbm, 109, rfl⟩
abbrev main_call1_v1 : Ref sig .tc := ⟨.hbm, 110, rfl⟩
abbrev main_v87 : Ref sig .tc := ⟨.hbm, 111, rfl⟩
abbrev main_cst_13 : Ref sig .tc := ⟨.hbm, 112, rfl⟩
abbrev main_v88 : Ref sig .tc := ⟨.hbm, 113, rfl⟩
abbrev main_v89 : Ref sig .tc := ⟨.hbm, 114, rfl⟩
abbrev main_cst_14 : Ref sig .tc := ⟨.hbm, 115, rfl⟩
abbrev main_v90 : Ref sig .tc := ⟨.hbm, 116, rfl⟩
abbrev main_cst_15 : Ref sig .tc := ⟨.hbm, 117, rfl⟩
abbrev main_v91 : Ref sig .tc := ⟨.hbm, 118, rfl⟩
abbrev main_c_16 : Ref sig .tc := ⟨.hbm, 119, rfl⟩
abbrev main_v92_0 : Ref sig .tc := ⟨.hbm, 120, rfl⟩
abbrev main_v92_1 : Ref sig .tc := ⟨.hbm, 121, rfl⟩
abbrev main_v92_2 : Ref sig .tc := ⟨.hbm, 122, rfl⟩
abbrev main_v92_3 : Ref sig .tc := ⟨.hbm, 123, rfl⟩
abbrev main_v92_4 : Ref sig .tc := ⟨.hbm, 124, rfl⟩
abbrev main_while0c_c_25 : Ref sig .tc := ⟨.hbm, 125, rfl⟩
abbrev main_while0c_v108 : Ref sig .tc := ⟨.hbm, 126, rfl⟩
abbrev main_while0b_call2_c : Ref sig .tc := ⟨.hbm, 127, rfl⟩
abbrev main_while0b_call2_c_0 : Ref sig .tc := ⟨.hbm, 128, rfl⟩
abbrev main_while0b_call2_v0 : Ref sig .tc := ⟨.hbm, 129, rfl⟩
abbrev main_while0b_v108 : Ref sig .tc := ⟨.hbm, 130, rfl⟩
abbrev main_while0b_v109 : Ref sig .tc := ⟨.hbm, 131, rfl⟩
abbrev main_while0b_cst_25 : Ref sig .tc := ⟨.hbm, 132, rfl⟩
abbrev main_while0b_v110 : Ref sig .tc := ⟨.hbm, 133, rfl⟩
abbrev main_while0b_v111 : Ref sig .tc := ⟨.hbm, 134, rfl⟩
abbrev main_while0b_cst_26 : Ref sig .tc := ⟨.hbm, 135, rfl⟩
abbrev main_while0b_call3_v0 : Ref sig .tc := ⟨.hbm, 136, rfl⟩
abbrev main_while0b_call3_v1 : Ref sig .tc := ⟨.hbm, 137, rfl⟩
abbrev main_while0b_v112 : Ref sig .tc := ⟨.hbm, 138, rfl⟩
abbrev main_while0b_v113 : Ref sig .tc := ⟨.hbm, 139, rfl⟩
abbrev main_while0b_call4_v0 : Ref sig .tc := ⟨.hbm, 140, rfl⟩
abbrev main_while0b_call4_c : Ref sig .tc := ⟨.hbm, 141, rfl⟩
abbrev main_while0b_call4_c_0 : Ref sig .tc := ⟨.hbm, 142, rfl⟩
abbrev main_while0b_v114 : Ref sig .tc := ⟨.hbm, 143, rfl⟩
abbrev main_while0b_c_27 : Ref sig .tc := ⟨.hbm, 144, rfl⟩
abbrev main_while0b_v115 : Ref sig .tc := ⟨.hbm, 145, rfl⟩
abbrev main_cst_17 : Ref sig .tc := ⟨.hbm, 146, rfl⟩
abbrev main_v93 : Ref sig .tc := ⟨.hbm, 147, rfl⟩
abbrev main_v94 : Ref sig .tc := ⟨.hbm, 148, rfl⟩
abbrev main_v95 : Ref sig .tc := ⟨.hbm, 149, rfl⟩
abbrev main_cst_18 : Ref sig .tc := ⟨.hbm, 150, rfl⟩
abbrev main_v96 : Ref sig .tc := ⟨.hbm, 151, rfl⟩
abbrev main_v97 : Ref sig .tc := ⟨.hbm, 152, rfl⟩
abbrev main_v98 : Ref sig .tc := ⟨.hbm, 153, rfl⟩
abbrev main_cst_19 : Ref sig .tc := ⟨.hbm, 154, rfl⟩
abbrev main_call5_v0 : Ref sig .tc := ⟨.hbm, 155, rfl⟩
abbrev main_call5_v1 : Ref sig .tc := ⟨.hbm, 156, rfl⟩
abbrev main_v99 : Ref sig .tc := ⟨.hbm, 157, rfl⟩
abbrev main_cst_20 : Ref sig .tc := ⟨.hbm, 158, rfl⟩
abbrev main_v100 : Ref sig .tc := ⟨.hbm, 159, rfl⟩
abbrev main_v101 : Ref sig .tc := ⟨.hbm, 160, rfl⟩
abbrev main_v102 : Ref sig .tc := ⟨.hbm, 161, rfl⟩
abbrev main_v103 : Ref sig .tc := ⟨.hbm, 162, rfl⟩
abbrev main_v104 : Ref sig .tc := ⟨.hbm, 163, rfl⟩
abbrev main_v105 : Ref sig .tc := ⟨.hbm, 164, rfl⟩
abbrev main_v106 : Ref sig .tc := ⟨.hbm, 165, rfl⟩
abbrev main_v107 : Ref sig .tc := ⟨.hbm, 166, rfl⟩

abbrev nD : Nat := 1
abbrev τ : Topo := Topo.v7x

variable {F : FTy → Type} [FloatOps F]

abbrev main_while0_count : Scf.Loop 32 := ⟨0#32, 4096#32, 1#32⟩
-- ==== Proof.PI.Body.lean ====
/- The kernel body of the compositing launch: the value its while loop computes, named by a recursion on the number of
   chunks still allowed, and the body's triple, the loop's label answered by a specification stated over that value.
   Everything is stated at any scalar values `F`. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Claim
public import Idealize.ShloMosaic.Lib.Ring
public import Idealize.ShloMosaic.Lib.Tactic
public import Idealize.ShloMosaic.Lib.WordCmp

@[expose] public section

set_option maxRecDepth 16384

noncomputable section

namespace Cert.Proof.PI

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The loop's label recurses, so a call of it is measured by the number of chunks still allowed. -/
abbrev 𝒱₀ : Variants := Variants.nat

/-! ### The loop's value -/

/-- At every chunk the loop can reach, the rows it loads lie inside their arrays. -/
theorem chk_lt : ∀ j : Fin 32, k0_chk1 (BitVec.ofNat 32 j.val) := by decide +kernel

/-- A chunk number below 32 passes the loads' check. -/
theorem chk (j : ℕ) (hj : j < 32) : k0_chk1 (BitVec.ofNat 32 j) := chk_lt ⟨j, hj⟩

/-- The row of a parameter array that chunk `j` loads. -/
abbrev rowR (j : ℕ) (hj : j < 32) : Rect S32x128 :=
  Rect.unit (s := S32x128) (k0_off1 (BitVec.ofNat 32 j)) S1x128.size (k0_off1_inb _ (chk j hj))

/-- The rows of the colour array that chunk `j` loads. -/
abbrev colR (j : ℕ) (hj : j < 32) : Rect S4096x3 :=
  Rect.unit (s := S4096x3) (k0_off2 (BitVec.ofNat 32 j)) S128x3.size (k0_off2_inb _ (chk j hj))

/-- The whole output block. -/
abbrev outR : Rect S1x256x3 := Rect.unit (s := S1x256x3) ![0, 0, 0] S1x256x3.size inb_S1x256x3_S1x256x3_0_0_0

section Value

variable (i : grid0.Coords) (x0 x1 x2 x3 x4 x5 : Vec F S32x128 .f32) (x6 : Vec F S4096x3 .f32)

/-- Chunk `j`'s clamped opacity times the gaussian. -/
def raw (j : ℕ) (hj : j < 32) : FVec F S256x128 .f32 :=
  k0_pay10 (k0_pay2 (F := F)) (k0_pay1 i) (View.ld x0 (rowR j hj)) (View.ld x1 (rowR j hj)) (View.ld x2 (rowR j hj))
    (View.ld x3 (rowR j hj)) (View.ld x4 (rowR j hj)) (View.ld x5 (rowR j hj))

/-- Chunk `j`'s mask of the gaussians with a nonnegative exponent. -/
def mskS (j : ℕ) (hj : j < 32) : IVec S256x128 1 :=
  k0_pay11 (k0_pay2 (F := F)) (k0_pay1 i) (View.ld x0 (rowR j hj)) (View.ld x1 (rowR j hj)) (View.ld x2 (rowR j hj))
    (View.ld x3 (rowR j hj)) (View.ld x4 (rowR j hj))

/-- Chunk `j`'s mask of the gaussians opaque enough to count. -/
def mskA (j : ℕ) (hj : j < 32) : IVec S256x128 1 :=
  k0_pay12 (k0_pay2 (F := F)) (k0_pay1 i) (View.ld x0 (rowR j hj)) (View.ld x1 (rowR j hj)) (View.ld x2 (rowR j hj))
    (View.ld x3 (rowR j hj)) (View.ld x4 (rowR j hj)) (View.ld x5 (rowR j hj))

/-- The transmittance after chunk `j`, from the one before it. -/
def stepT (j : ℕ) (hj : j < 32) (T : FVec F S256x1 .f32) : FVec F S256x1 .f32 :=
  k0_pay8 T (k0_pay14 (raw i x0 x1 x2 x3 x4 x5 j hj) (mskS i x0 x1 x2 x3 x4 j hj) (mskA i x0 x1 x2 x3 x4 x5 j hj))

/-- The composited colours after chunk `j`, from those before it. -/
def stepA (j : ℕ) (hj : j < 32) (T : FVec F S256x1 .f32) (a : FVec F S256x3 .f32) : FVec F S256x3 .f32 :=
  k0_pay7 a (k0_pay15 T (raw i x0 x1 x2 x3 x4 x5 j hj) (mskS i x0 x1 x2 x3 x4 j hj) (mskA i x0 x1 x2 x3 x4 x5 j hj))
    (View.ld x6 (colR j hj))

/-- The loop's condition on the transmittance: its largest entry has not fallen below the threshold. -/
def bright (T : FVec F S256x1 .f32) : BitVec 1 := Scalar.cmpf .oge (k0_pay6 T) (Scalar.ofBits .f32 0x38D1B717#32)

/-- The colours the loop returns from chunk `j` on, at most `k` chunks allowed. -/
def accFrom : ℕ → ℕ → FVec F S256x1 .f32 → FVec F S256x3 .f32 → FVec F S256x3 .f32
  | 0, _, _, a => a
  | k + 1, j, T, a =>
    if h : j < 32 ∧ bright T = 1#1 then
      accFrom k (j + 1) (stepT i x0 x1 x2 x3 x4 x5 j h.1 T) (stepA i x0 x1 x2 x3 x4 x5 x6 j h.1 T a)
    else a

/-- What the body leaves in the output's buffer: the loop's colours from chunk 0 on, stored over the whole block. -/
def outv : Vec F S1x256x3 .f32 :=
  View.canon [⟨outR, k0_pay5 (accFrom i x0 x1 x2 x3 x4 x5 x6 32 0 (k0_pay3 (F := F)) (k0_pay4 (F := F)))⟩]

end Value

/-- One store covers the output block. -/
theorem cover_out (p : Vec F S1x256x3 .f32) (y : S1x256x3.Idx) :
    ∃ pc ∈ ([⟨outR, p⟩] : List (View.Piece (Elt F) S1x256x3 .f32)), y ∈ pc.1.set :=
  View.cover_of_tiled [⟨outR, p⟩] S1x256x3.size (by rfl) y

/-! ### The loop's test -/

/-- The loop's bound test, for every count it meets. -/
theorem slt_tab : ∀ j : Fin 33, Scalar.cmpi .slt (BitVec.ofNat 32 j.val) 32#32 = if j.val < 32 then 1#1 else 0#1 := by
  decide +kernel

/-- And with true is the other bit. -/
theorem and_one (b : BitVec 1) : Scalar.andi 1#1 b = b := by revert b; decide
/-- And with false is false. -/
theorem and_zero (b : BitVec 1) : Scalar.andi 0#1 b = 0#1 := by revert b; decide

/-- The loop's test, read over the chunk number. -/
theorem test_iff (j : ℕ) (hj : j ≤ 32) (b : BitVec 1) :
    Scalar.andi (Scalar.cmpi .slt (BitVec.ofNat 32 j) 32#32) b = 1#1 ↔ j < 32 ∧ b = 1#1 := by
  rw [show Scalar.cmpi .slt (BitVec.ofNat 32 j) 32#32 = if j < 32 then 1#1 else 0#1 from slt_tab ⟨j, by omega⟩]
  by_cases h : j < 32
  · rw [if_pos h, and_one]; exact ⟨fun hb => ⟨h, hb⟩, fun hb => hb.2⟩
  · rw [if_neg h, and_zero]; exact ⟨fun hb => absurd hb (by decide), fun hb => absurd hb.1 h⟩

/-- The counter plus one, for every count it meets. -/
theorem succ_tab : ∀ j : Fin 32, Scalar.addi (BitVec.ofNat 32 j.val) 1#32 = BitVec.ofNat 32 (j.val + 1) := by
  decide +kernel

/-! ### The loop's label -/

section Label

variable (c : Dev nD) (i : grid0.Coords)
  (arg1 : Memref sig .tc .vmem S32x128 .f32) (harg1 : arg1.IsWhole) (arg2 : Memref sig .tc .vmem S32x128 .f32) (harg2 : arg2.IsWhole)
  (arg3 : Memref sig .tc .vmem S32x128 .f32) (harg3 : arg3.IsWhole) (arg4 : Memref sig .tc .vmem S32x128 .f32) (harg4 : arg4.IsWhole)
  (arg5 : Memref sig .tc .vmem S32x128 .f32) (harg5 : arg5.IsWhole) (arg6 : Memref sig .tc .vmem S32x128 .f32) (harg6 : arg6.IsWhole)
  (arg7 : Memref sig .tc .vmem S4096x3 .f32) (harg7 : arg7.IsWhole)
  (x0 x1 x2 x3 x4 x5 : Vec F S32x128 .f32) (x6 : Vec F S4096x3 .f32)

/-- The seven arrays' buffers that the loop reads, at their contents. -/
def held : sProp 𝕄 :=
  iprop(owns (c : Thread nD τ) arg1 fullShare x0 ∗ owns (c : Thread nD τ) arg2 fullShare x1 ∗ owns (c : Thread nD τ) arg3 fullShare x2
    ∗ owns (c : Thread nD τ) arg4 fullShare x3 ∗ owns (c : Thread nD τ) arg5 fullShare x4 ∗ owns (c : Thread nD τ) arg6 fullShare x5
    ∗ owns (c : Thread nD τ) arg7 fullShare x6)

/-- The label's specification: holding the seven buffers it returns some counter, some transmittance and the colours
    `a`, the buffers as they were. -/
def spec (a : FVec F S256x3 .f32) : sWPT 𝕄 (BitVec 32 × FVec F S256x1 .f32 × FVec F S256x3 .f32) := do
  sWPT.consume (held c arg1 arg2 arg3 arg4 arg5 arg6 arg7 x0 x1 x2 x3 x4 x5 x6)
  let r ← sWPT.arbitrary
  sWPT.assume (r.2.2 = a)
  sWPT.produce (held c arg1 arg2 arg3 arg4 arg5 arg6 arg7 x0 x1 x2 x3 x4 x5 x6)
  pure r

/-- The specification at a continuation, written out. -/
theorem spec_apply (a : FVec F S256x3 .f32) (K : BitVec 32 × FVec F S256x1 .f32 × FVec F S256x3 .f32 → sProp 𝕄) :
    spec c arg1 arg2 arg3 arg4 arg5 arg6 arg7 x0 x1 x2 x3 x4 x5 x6 a K
      = iprop(held c arg1 arg2 arg3 arg4 arg5 arg6 arg7 x0 x1 x2 x3 x4 x5 x6
        ∗ ∀ r : BitVec 32 × FVec F S256x1 .f32 × FVec F S256x3 .f32, ⌜r.2.2 = a⌝ -∗
          (held c arg1 arg2 arg3 arg4 arg5 arg6 arg7 x0 x1 x2 x3 x4 x5 x6 -∗ K r)) := rfl

set_option maxHeartbeats 2000000 in
/-- The label's body meets the specification at the loop's value, by induction on the chunks still allowed. -/
theorem spec_le (E : Set ℕ) :
    ∀ k j, j + k = 32 → ∀ (T : FVec F S256x1 .f32) (a : FVec F S256x3 .f32) K,
      spec c arg1 arg2 arg3 arg4 arg5 arg6 arg7 x0 x1 x2 x3 x4 x5 x6 (accFrom i x0 x1 x2 x3 x4 x5 x6 k j T a) K
      ⊢ wp frame (wpE (defs₀ (F := F)) 𝒱₀ (c : Thread nD τ) (some k)) E
          (defs₀ (F := F) .tc 1 ⟨i, arg1, harg1, arg2, harg2, arg3, harg3, arg4, harg4, arg5, harg5, arg6, harg6,
            k0_pay2 (F := F), k0_pay1 (F := F) i, arg7, harg7, BitVec.ofNat 32 j, T, a⟩) K := by
  intro k
  induction k with
  | zero =>
    intro j hj T a K
    rw [spec_apply]
    show _ ⊢ wp frame (wpE (defs₀ (F := F)) 𝒱₀ (c : Thread nD τ) (some 0)) E
      (cc0_while1 i arg1 harg1 arg2 harg2 arg3 harg3 arg4 harg4 arg5 harg5 arg6 harg6
            (k0_pay2 (F := F)) (k0_pay1 (F := F) i) arg7 harg7 (BitVec.ofNat 32 j) T a) K
    simp only [cc0_while1_eq_skeleton]; unfold cc0_while1_skel
    have htest := mt (test_iff j (by omega) (bright T)).1 (by omega)
    unfold bright at htest
    simp only [htest, ↓reduceIte, Prog.pure_eq_ret]
    iintro ⟨H, Hk⟩
    rw [wp_ret]; imodintro
    iapply Hk
    · ipureintro; rfl
    · iexact H
  | succ k ih =>
    intro j hj T a K
    rw [spec_apply]
    show _ ⊢ wp frame (wpE (defs₀ (F := F)) 𝒱₀ (c : Thread nD τ) (some (k + 1))) E
      (cc0_while1 i arg1 harg1 arg2 harg2 arg3 harg3 arg4 harg4 arg5 harg5 arg6 harg6
            (k0_pay2 (F := F)) (k0_pay1 (F := F) i) arg7 harg7 (BitVec.ofNat 32 j) T a) K
    simp only [cc0_while1_eq_skeleton]; unfold cc0_while1_skel
    rw [accFrom]
    by_cases hgo : j < 32 ∧ bright T = 1#1
    · have htest := (test_iff j (by omega) (bright T)).2 hgo
      unfold bright at htest
      have hchk := chk j hgo.1
      rw [dif_pos hgo]
      simp only [htest, ↓reduceIte, k0_part1_eq_skeleton, k0_part2_eq_skeleton]
      unfold k0_part1_skel k0_part2_skel
      simp only [Prog.lift, Prog.bind_op, Prog.bind_ret, Prog.pure_eq_ret, Prog.bind_assoc]
      unfold held owns
      iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩⟩, Hk⟩
      subst hf0 hf1 hf2 hf3 hf4 hf5 hf6
      iapply (wp_assume 𝒱₀ (c : Thread nD τ) (some (k + 1)) E hchk)
      sl_step
      sl_step
      sl_step
      sl_step
      sl_step
      sl_step
      sl_step
      rw [show Scalar.addi (BitVec.ofNat 32 j) 1#32 = BitVec.ofNat 32 (j + 1) from succ_tab ⟨j, hgo.1⟩]
      iapply (wp_call_spec 𝒱₀ (c : Thread nD τ) (some (k + 1)) E _ k
        (fun u hu => by cases hu; exact Nat.lt_succ_self k)
        (ih (j + 1) (by omega) _ _))
      rw [spec_apply]; unfold held owns
      isplitl [H0 H1 H2 H3 H4 H5 H6]
      · isplitl [H0]
        · iexists f0; isplitr; · ipureintro; rfl
          iexact H0
        isplitl [H1]
        · iexists f1; isplitr; · ipureintro; rfl
          iexact H1
        isplitl [H2]
        · iexists f2; isplitr; · ipureintro; rfl
          iexact H2
        isplitl [H3]
        · iexists f3; isplitr; · ipureintro; rfl
          iexact H3
        isplitl [H4]
        · iexists f4; isplitr; · ipureintro; rfl
          iexact H4
        isplitl [H5]
        · iexists f5; isplitr; · ipureintro; rfl
          iexact H5
        iexists f6; isplitr; · ipureintro; rfl
        iexact H6
      iintro %r %hr H
      rw [wp_ret]; imodintro
      iapply Hk
      · ipureintro; exact hr
      · iexact H
    · have htest := mt (test_iff j (by omega) (bright T)).1 hgo
      unfold bright at htest
      rw [dif_neg hgo]
      simp only [htest, ↓reduceIte, Prog.pure_eq_ret]
      iintro ⟨H, Hk⟩
      rw [wp_ret]; imodintro
      iapply Hk
      · ipureintro; rfl
      · iexact H

end Label

/-! ### The body's triple -/

set_option maxHeartbeats 1000000 in
/-- The body, holding the seven input buffers at their contents and the output's at anything, gives the inputs back as
    they were and the output at the loop's colours. -/
theorem sound_kernel (c : Dev nD) (E : Set ℕ) (i : grid0.Coords)
    (arg1 : Memref sig .tc .vmem S32x128 .f32) (harg1 : arg1.IsWhole) (arg2 : Memref sig .tc .vmem S32x128 .f32) (harg2 : arg2.IsWhole)
    (arg3 : Memref sig .tc .vmem S32x128 .f32) (harg3 : arg3.IsWhole) (arg4 : Memref sig .tc .vmem S32x128 .f32) (harg4 : arg4.IsWhole)
    (arg5 : Memref sig .tc .vmem S32x128 .f32) (harg5 : arg5.IsWhole) (arg6 : Memref sig .tc .vmem S32x128 .f32) (harg6 : arg6.IsWhole)
    (arg7 : Memref sig .tc .vmem S4096x3 .f32) (harg7 : arg7.IsWhole) (arg8 : Memref sig .tc .vmem S1x256x3 .f32) (harg8 : arg8.IsWhole)
    (x0 x1 x2 x3 x4 x5 : Vec F S32x128 .f32) (x6 : Vec F S4096x3 .f32) (K : PUnit → sProp 𝕄) :
    iprop(held c arg1 arg2 arg3 arg4 arg5 arg6 arg7 x0 x1 x2 x3 x4 x5 x6 ∗ (∃ d, owns (c : Thread nD τ) arg8 fullShare d)
        ∗ (iprop(held c arg1 arg2 arg3 arg4 arg5 arg6 arg7 x0 x1 x2 x3 x4 x5 x6
            ∗ owns (c : Thread nD τ) arg8 fullShare (outv i x0 x1 x2 x3 x4 x5 x6)) -∗ K ⟨⟩))
      ⊢ wp frame (wpE (defs₀ (F := F)) 𝒱₀ c none) E (cc0__row_kernel i arg1 harg1 arg2 harg2 arg3 harg3 arg4 harg4 arg5 harg5
          arg6 harg6 arg7 harg7 arg8 harg8) K := by
  simp only [cc0__row_kernel_eq_skeleton]; unfold cc0__row_kernel_skel
  simp only [Prog.lift, Prog.bind_op, Prog.bind_ret, Prog.pure_eq_ret]
  iintro ⟨H, Ho, Hk⟩
  iapply (wp_call_spec 𝒱₀ (c : Thread nD τ) none E _ 32 (fun u hu => nomatch hu)
    (spec_le c i arg1 harg1 arg2 harg2 arg3 harg3 arg4 harg4 arg5 harg5 arg6 harg6 arg7 harg7 x0 x1 x2 x3 x4 x5 x6 E
      32 0 rfl (k0_pay3 (F := F)) (k0_pay4 (F := F))))
  rw [spec_apply]
  isplitl [H]; · iexact H
  iintro %r %hr H
  unfold owns
  icases Ho with ⟨%d7, %f7, -, H7⟩
  sl_exec
  sl_step
  iapply Hk
  isplitl [H]; · iexact H
  iexists _; isplitr
  swap; · iexact H7
  ipureintro
  refine (View.read_writes_eq_canon _ _ _ (cover_out _)).trans ?_
  rw [outv, ← hr]

end Cert.Proof.PI

end
-- ==== Proof.PI.Frame.lean ====
/- The launch of the compositing pipeline: what each window's buffer holds at each grid point, the body obligation from
   the body's triple, the run, the frame, and the output array after the run block by block. At any scalar values `F`. -/
module

public import proofs.«01_k».proof.Proof.PI.Body
public import Idealize.ShloMosaic.Lib.Pipeline.Value

@[expose] public section

set_option maxRecDepth 16384

noncomputable section

namespace Cert.Proof.PI

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ### Up to the region -/

/-- What core `c`'s buffers hold when the region is entered: the memory after the host operations. -/
abbrev V (c : Dev nD) (b : Ref sig .tc) : Buf (Elt F) ((c : Thread nD τ).loc b) :=
  StableHlo.after (List.flatten [hostOps0, hostOps0_1]) (fun b => m (c, b)) b

/-- The first stretch allocates no buffer. -/
theorem fresh0 : (hostOps0 : List (HloOp τ sig (Elt F))).Forall fun op => op.fresh = ∅ := by
  simp only [List.Forall]; repeat' constructor
/-- The second stretch allocates no buffer. -/
theorem fresh1 : (hostOps0_1 : List (HloOp τ sig (Elt F))).Forall fun op => op.fresh = ∅ := by
  simp only [List.Forall]; repeat' constructor

set_option maxHeartbeats 800000 in
/-- The program up to the region: two stretches of host operations, then the region. -/
theorem hmain : Pipeline.HMain (Ix := Unit) (Name := ℕ) (U := UR sig nD τ) (Lvl := ℕ) cfgs 0 defs₀ 𝒱₀ m (main (F := F)) (V m) :=
  Pipeline.hmain_prefixes cfgs 0 defs₀ 𝒱₀ m main [hostOps0, hostOps0_1] (by simp only [List.Forall]; exact ⟨hostOps0_sub, hostOps0_1_sub⟩)
    (by simp only [List.Forall]; exact ⟨fresh0, fresh1⟩) main_chain

/-- A buffer that no host operation writes is, at the region, as launched: each argument array is one. -/
theorem V_arg (b : Ref sig .tc) (hb : b ∈ [main_arg0, main_arg1, main_arg2, main_arg3, main_arg4]) (c : Dev nD) :
    V m c b = m ((c : Thread nD τ).loc b) := by
  simp only [List.mem_cons, List.not_mem_nil, or_false] at hb
  refine StableHlo.after_of_forall_not_mem (b := Proc.devRef .tc b) _ _ (List.forall_iff_forall_mem.mp ?_)
  rcases hb with rfl | rfl | rfl | rfl | rfl <;>
  · simp only [hostOps0, hostOps0_1, List.flatten_cons, List.flatten_nil, List.append_nil, List.cons_append,
      List.nil_append, List.Forall, StableHlo.nullary_writes, StableHlo.unary_writes, StableHlo.binary_writes,
      StableHlo.ternary_writes, StableHlo.reshape_writes, Finset.mem_singleton]
    repeat' apply And.intro
    all_goals exact StableHlo.devRef_ne_of_ne (by decide)

/-! ### What the windows' buffers hold -/

/-- Window `w`'s block at grid point `t`, read off its array as the region finds it. -/
def iblk (c : Dev nD) (w : Fin (cfg0 (F := F)).W) (t : Fin (cfg0 (F := F)).N) : (((cfg0 (F := F)).win w).xblock ((cfg0 (F := F)).grid.coords t)).Idx → Elt F ((cfg0 (F := F)).win w).elt :=
  (((cfg0 (F := F)).win w).blk t).view.read (Elt F) (V m c (Pipeline.arrRef spec0 w))

/-- The proof data of the pipeline: the arrays as the region finds them, each input's buffer left at its block, the
    output's at the loop's colours of the input blocks, nothing owed, every share full. -/
def dats (_ : Fin 1) (c : Dev nD) : Dat τ (Elt F) Unit ℕ (UR sig nD τ) ℕ (cfg0 (F := F)) c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => outv (grid0.coords t) (iblk m c 0 t) (iblk m c 1 t) (iblk m c 2 t) (iblk m c 3 t) (iblk m c 4 t) (iblk m c 5 t) (iblk m c 6 t)
  Φ _ := Pipeline.ΦA spec0 c
  q _ := fullShare
  owed _ := 0

/-- The proof data's arrays are those the region finds. -/
theorem A_eq (c : Dev nD) (w : Fin (cfg0 (F := F)).W) : (dats m 0 c).A w = V m c (Pipeline.arrRef spec0 w) := by
  dsimp only [dats]; try rfl

/-- What the body leaves in window 0's buffer, by the proof data. -/
theorem after0 (c : Dev nD) (t : Fin (cfg0 (F := F)).N) : (dats m 0 c).after 0 t = iblk m c 0 t := by dsimp only [dats]; try rfl
/-- What the body leaves in window 1's buffer, by the proof data. -/
theorem after1 (c : Dev nD) (t : Fin (cfg0 (F := F)).N) : (dats m 0 c).after 1 t = iblk m c 1 t := by dsimp only [dats]; try rfl
/-- What the body leaves in window 2's buffer, by the proof data. -/
theorem after2 (c : Dev nD) (t : Fin (cfg0 (F := F)).N) : (dats m 0 c).after 2 t = iblk m c 2 t := by dsimp only [dats]; try rfl
/-- What the body leaves in window 3's buffer, by the proof data. -/
theorem after3 (c : Dev nD) (t : Fin (cfg0 (F := F)).N) : (dats m 0 c).after 3 t = iblk m c 3 t := by dsimp only [dats]; try rfl
/-- What the body leaves in window 4's buffer, by the proof data. -/
theorem after4 (c : Dev nD) (t : Fin (cfg0 (F := F)).N) : (dats m 0 c).after 4 t = iblk m c 4 t := by dsimp only [dats]; try rfl
/-- What the body leaves in window 5's buffer, by the proof data. -/
theorem after5 (c : Dev nD) (t : Fin (cfg0 (F := F)).N) : (dats m 0 c).after 5 t = iblk m c 5 t := by dsimp only [dats]; try rfl
/-- What the body leaves in window 6's buffer, by the proof data. -/
theorem after6 (c : Dev nD) (t : Fin (cfg0 (F := F)).N) : (dats m 0 c).after 6 t = iblk m c 6 t := by dsimp only [dats]; try rfl
/-- What the body leaves in window 7's buffer, by the proof data. -/
theorem after7 (c : Dev nD) (t : Fin (cfg0 (F := F)).N) : (dats m 0 c).after 7 t
    = outv (grid0.coords t) (iblk m c 0 t) (iblk m c 1 t) (iblk m c 2 t) (iblk m c 3 t) (iblk m c 4 t) (iblk m c 5 t) (iblk m c 6 t) := by
  dsimp only [dats]; try rfl

/-- Input window 0's buffer holds its block when the body is called, fetched at this point or earlier. -/
theorem before0 (c : Dev nD) (t : Fin (cfg0 (F := F)).N) (d) : (dats m 0 c).before 0 t d = iblk m c 0 t :=
  ((dats m 0 c).before_in_eq_fetched 0 rfl (fun _ => rfl) (fun _ _ _ => rfl)
    (fun t => by rw [after0]; unfold Dat.blockOf iblk; rw [A_eq]; try rfl) t d).trans
    (by unfold Dat.fetched Dat.blockOf iblk; rw [A_eq]; try rfl)
/-- Input window 1's buffer holds its block when the body is called, fetched at this point or earlier. -/
theorem before1 (c : Dev nD) (t : Fin (cfg0 (F := F)).N) (d) : (dats m 0 c).before 1 t d = iblk m c 1 t :=
  ((dats m 0 c).before_in_eq_fetched 1 rfl (fun _ => rfl) (fun _ _ _ => rfl)
    (fun t => by rw [after1]; unfold Dat.blockOf iblk; rw [A_eq]; try rfl) t d).trans
    (by unfold Dat.fetched Dat.blockOf iblk; rw [A_eq]; try rfl)
/-- Input window 2's buffer holds its block when the body is called, fetched at this point or earlier. -/
theorem before2 (c : Dev nD) (t : Fin (cfg0 (F := F)).N) (d) : (dats m 0 c).before 2 t d = iblk m c 2 t :=
  ((dats m 0 c).before_in_eq_fetched 2 rfl (fun _ => rfl) (fun _ _ _ => rfl)
    (fun t => by rw [after2]; unfold Dat.blockOf iblk; rw [A_eq]; try rfl) t d).trans
    (by unfold Dat.fetched Dat.blockOf iblk; rw [A_eq]; try rfl)
/-- Input window 3's buffer holds its block when the body is called, fetched at this point or earlier. -/
theorem before3 (c : Dev nD) (t : Fin (cfg0 (F := F)).N) (d) : (dats m 0 c).before 3 t d = iblk m c 3 t :=
  ((dats m 0 c).before_in_eq_fetched 3 rfl (fun _ => rfl) (fun _ _ _ => rfl)
    (fun t => by rw [after3]; unfold Dat.blockOf iblk; rw [A_eq]; try rfl) t d).trans
    (by unfold Dat.fetched Dat.blockOf iblk; rw [A_eq]; try rfl)
/-- Input window 4's buffer holds its block when the body is called, fetched at this point or earlier. -/
theorem before4 (c : Dev nD) (t : Fin (cfg0 (F := F)).N) (d) : (dats m 0 c).before 4 t d = iblk m c 4 t :=
  ((dats m 0 c).before_in_eq_fetched 4 rfl (fun _ => rfl) (fun _ _ _ => rfl)
    (fun t => by rw [after4]; unfold Dat.blockOf iblk; rw [A_eq]; try rfl) t d).trans
    (by unfold Dat.fetched Dat.blockOf iblk; rw [A_eq]; try rfl)
/-- Input window 5's buffer holds its block when the body is called, fetched at this point or earlier. -/
theorem before5 (c : Dev nD) (t : Fin (cfg0 (F := F)).N) (d) : (dats m 0 c).before 5 t d = iblk m c 5 t :=
  ((dats m 0 c).before_in_eq_fetched 5 rfl (fun _ => rfl) (fun _ _ _ => rfl)
    (fun t => by rw [after5]; unfold Dat.blockOf iblk; rw [A_eq]; try rfl) t d).trans
    (by unfold Dat.fetched Dat.blockOf iblk; rw [A_eq]; try rfl)
/-- Input window 6's buffer holds its block when the body is called, fetched at this point or earlier. -/
theorem before6 (c : Dev nD) (t : Fin (cfg0 (F := F)).N) (d) : (dats m 0 c).before 6 t d = iblk m c 6 t :=
  ((dats m 0 c).before_in_eq_fetched 6 rfl (fun _ => rfl) (fun _ _ _ => rfl)
    (fun t => by rw [after6]; unfold Dat.blockOf iblk; rw [A_eq]; try rfl) t d).trans
    (by unfold Dat.fetched Dat.blockOf iblk; rw [A_eq]; try rfl)

/-! ### The body obligation -/

/-- The body at grid point `t`, called with the invariant, the core's debts and the eight buffers, gives them back with
    each input's buffer at its block and the output's at the loop's colours. -/
theorem sound_body (c : Dev nD) (t : Fin (cfg0 (F := F)).N) :
    iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d)))
    ⊢ wp frame (wpE (defs₀ (F := F)) 𝒱₀ c none) Set.univ (bodyAt0 t) (fun _ =>
      iprop((dats m 0 c).Φ t.succ ∗ (dats m 0 c).owesAt () t.succ
      ∗ owns (c : Thread nD τ) (st0_0 t) fullShare ((dats m 0 c).after 0 t)
      ∗ owns (c : Thread nD τ) (st0_1 t) fullShare ((dats m 0 c).after 1 t)
      ∗ owns (c : Thread nD τ) (st0_2 t) fullShare ((dats m 0 c).after 2 t)
      ∗ owns (c : Thread nD τ) (st0_3 t) fullShare ((dats m 0 c).after 3 t)
      ∗ owns (c : Thread nD τ) (st0_4 t) fullShare ((dats m 0 c).after 4 t)
      ∗ owns (c : Thread nD τ) (st0_5 t) fullShare ((dats m 0 c).after 5 t)
      ∗ owns (c : Thread nD τ) (st0_6 t) fullShare ((dats m 0 c).after 6 t)
      ∗ owns (c : Thread nD τ) (st0_7 t) fullShare ((dats m 0 c).after 7 t))) := by
  unfold bodyAt0
  simp only [before0, before1, before2, before3, before4, before5, before6]
  rw [show (dats m 0 c).Φ t.succ = (dats m 0 c).Φ t.castSucc from rfl,
    show (dats m 0 c).owesAt () t.succ = (dats m 0 c).owesAt () t.castSucc from rfl,
    after0, after1, after2, after3, after4, after5, after6, after7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel c Set.univ (grid0.coords t) _ _ _ _ _ _ _ _ _ _ _ _ _ _ _ _ (iblk m c 0 t) (iblk m c 1 t) (iblk m c 2 t)
    (iblk m c 3 t) (iblk m c 4 t) (iblk m c 5 t) (iblk m c 6 t) _)
  unfold held
  isplitl [H0 H1 H2 H3 H4 H5 H6]
  · isplitl [H0]; · iexact H0
    isplitl [H1]; · iexact H1
    isplitl [H2]; · iexact H2
    isplitl [H3]; · iexact H3
    isplitl [H4]; · iexact H4
    isplitl [H5]; · iexact H5
    iexact H6
  isplitl [H7]; · iexists _; iexact H7
  iintro ⟨⟨H0, H1, H2, H3, H4, H5, H6⟩, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The body table's row at a point's slots is the body at that point. -/
theorem defs₀_row (t : Fin (cfg0 (F := F)).N) :
    defs₀ (F := F) .tc (cfg0 (F := F)).body ((cfg0 (F := F)).bodyArgs t ((cfg0 (F := F)).slots t)) = bodyAt0 t := by
  unfold defs₀; rw [Defs.onTc_tc]

/-- The body obligation at every grid point. -/
theorem body_obligation (c : Dev nD) : BodyObligation (dats (F := F) m 0 c) (defs₀ (F := F)) 𝒱₀ () Set.univ := fun t => by
  rw [bigSep_W0, bigSep_W0, defs₀_row]
  exact triple_restated (sound_body m c t) rfl .rfl fun _ => .rfl

/-! ### The run -/

set_option backward.isDefEq.respectTransparency.types false in
set_option maxHeartbeats 800000 in
/-- Every weakly fair execution terminates, with every array of the pipeline at what the proof data give, every other
    buffer as the region found it, and every semaphore counter at zero. -/
theorem run_main : θ_run defs (onTc (τ := τ) (main (F := F))) (s₀ m ρ)
    (fun r => (Pipeline.FramePost cfgs (dats m) 0 (V m)) r ∧ r.2.sem = fun _ => 0) :=
  Pipeline.θ_run_frame (Q' := _) cfgs (dats m) (0 : Fin 1) launch0 defs₀ 𝒱₀ m ρ main
    (hbody := fun c => (body_obligation m c).loose) (hshare := fun c => (dats m 0 c).share_full fun _ => rfl)
    (howed := fun _ _ => rfl) (V := V m) (hmain := hmain m) (hA := A_eq m) (hΦ := fun _ _ => rfl)

/-- After the run an argument array is as launched. -/
theorem kept (r : PUnit × MemSt nD τ sig (Elt F)) (h : Pipeline.FramePost cfgs (dats m) 0 (V m) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  ⟨((h c).2 main_arg0 (Pipeline.mem_restRefs_of main_arg0 (by decide) (by decide : ∀ w : Fin 8, (spec0 w).arr.view.ref ≠ main_arg0))).trans (V_arg m main_arg0 (by simp) c),
    ((h c).2 main_arg1 (Pipeline.mem_restRefs_of main_arg1 (by decide) (by decide : ∀ w : Fin 8, (spec0 w).arr.view.ref ≠ main_arg1))).trans (V_arg m main_arg1 (by simp) c),
    ((h c).2 main_arg2 (Pipeline.mem_restRefs_of main_arg2 (by decide) (by decide : ∀ w : Fin 8, (spec0 w).arr.view.ref ≠ main_arg2))).trans (V_arg m main_arg2 (by simp) c),
    ((h c).2 main_arg3 (Pipeline.mem_restRefs_of main_arg3 (by decide) (by decide : ∀ w : Fin 8, (spec0 w).arr.view.ref ≠ main_arg3))).trans (V_arg m main_arg3 (by simp) c),
    ((h c).2 main_arg4 (Pipeline.mem_restRefs_of main_arg4 (by decide) (by decide : ∀ w : Fin 8, (spec0 w).arr.view.ref ≠ main_arg4))).trans (V_arg m main_arg4 (by simp) c)⟩

/-- The frame: the argument arrays end as launched and every semaphore counter ends at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun r h => ⟨fun c => kept m r h.1 c, h.2⟩) (run_main m ρ)

/-! ### The output array after the run -/

/-- The output window's block index at a point is the point's number. -/
theorem idx_pt : ∀ t : Fin (cfg0 (F := F)).N, win0_7.index t ⟨0, by decide⟩ = t.val :=
  (by decide +kernel : ∀ t : Fin grid0.N, win0_7.index t ⟨0, by decide⟩ = t.val)

/-- Two points' output blocks share no element. -/
theorem out_disjoint : ∀ t t' : Fin (cfg0 (F := F)).N, ((cfg0 (F := F)).win 7).flush t = true → ((cfg0 (F := F)).win 7).flush t' = true → t ≠ t' →
    Disjoint (((cfg0 (F := F)).win 7).blk t).view.set (((cfg0 (F := F)).win 7).blk t').view.set :=
  fun t t' _ _ hne => ((cfg0 (F := F)).win 7).disjoint_blk fun h => hne (Fin.ext (by
    rw [← idx_pt t, ← idx_pt t']; exact congrFun (show win0_7.index t = win0_7.index t' from h) _))

/-- Block `t` of the final output array is the loop's colours at point `t`. -/
theorem out_block (c : Dev nD) (t : Fin (cfg0 (F := F)).N) (hf : ((cfg0 (F := F)).win 7).flush t = true) :
    (((cfg0 (F := F)).win 7).blk t).view.read (Elt F) ((dats m 0 c).arrAt 7 (cfg0 (F := F)).N)
      = ((cfg0 (F := F)).win 7).cut (grid0.coords t) (outv (grid0.coords t) (iblk m c 0 t) (iblk m c 1 t) (iblk m c 2 t) (iblk m c 3 t)
          (iblk m c 4 t) (iblk m c 5 t) (iblk m c 6 t)) := by
  rw [(dats m 0 c).read_blk_arrAt_eq_flushed 7 out_disjoint (cfg0 (F := F)).N t t.isLt hf]
  show ((cfg0 (F := F)).win 7).cut (grid0.coords t) ((dats m 0 c).after 7 t) = _
  rw [after7]

/-- The run with the output array named and the arguments unchanged. -/
theorem run_out : θ_run defs (onTc (τ := τ) (main (F := F))) ⟨m, fun _ => 0, ρ⟩ fun r => ∀ c : Dev nD,
      r.2.mem ((c.tc : Thread nD τ).loc main_v45) = (dats m 0 c).arrAt 7 (cfg0 (F := F)).N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun r h c => ⟨(h.1 c).1 7, kept m r h.1 c⟩) (run_main m ρ)

end Cert.Proof.PI

end
-- ==== Proof.RI.Frame.lean ====
/- The reference's run: which buffers each part of it leaves alone, and so its frame. At any scalar values `F`. -/
module

public import proofs.«01_k».proof.Proof.Gen.ReferenceIdeal.Run
public import Idealize.ShloMosaic.Lib.Quiescent

@[expose] public section

set_option maxRecDepth 16384

noncomputable section

namespace Cert.Proof.RI

open Cert.ReferenceIdeal Cert.ReferenceIdeal.Gen Cert.ReferenceIdeal.Value
open Idealize.ShloMosaic Idealize.ShloMosaic.TcCoe Idealize.ShloMosaic.StableHlo
open Idealize.SL Idealize.SL.Sem

variable {F : FTy → Type} [FloatOps F]
variable (m : (ℓ : Loc nD τ sig) → Buf (Elt F) ℓ) (ρ : Dev nD → PrngReg)

/-- The references the operations after the loop write, list by list. -/
abbrev post4_W : List (Ref sig .tc) := [main_cst_17, main_v93, main_v94, main_v95, main_cst_18, main_v96, main_v97, main_v98, main_cst_19]
/-- The same of the second list. -/
abbrev post5_W : List (Ref sig .tc) := [main_call5_v0, main_call5_v1, main_v99]
/-- The same of the third list. -/
abbrev post6_W : List (Ref sig .tc) := [main_cst_20, main_v100, main_v101, main_v102, main_v103, main_v104, main_v105, main_v106, main_v107]

/-- Each of those lists writes no more than its references. -/
theorem post4_writes : (hostOps0_4 : List (HloOp τ sig (Elt F))).Forall fun op => op.writes ⊆ (post4_W.map (Proc.devRef (τ := τ) .tc)).toFinset := by
  simp only [List.Forall]
  repeat' apply And.intro
  all_goals (simp only [nullary_writes, unary_writes, binary_writes, ternary_writes, Finset.singleton_subset_iff, List.mem_toFinset]; exact List.mem_map_of_mem (by decide))
/-- The second list writes no more than its references. -/
theorem post5_writes : (hostOps0_5 : List (HloOp τ sig (Elt F))).Forall fun op => op.writes ⊆ (post5_W.map (Proc.devRef (τ := τ) .tc)).toFinset := by
  simp only [List.Forall]
  repeat' apply And.intro
  all_goals (simp only [nullary_writes, unary_writes, binary_writes, ternary_writes, Finset.singleton_subset_iff, List.mem_toFinset]; exact List.mem_map_of_mem (by decide))
/-- The third list writes no more than its references. -/
theorem post6_writes : (hostOps0_6 : List (HloOp τ sig (Elt F))).Forall fun op => op.writes ⊆ (post6_W.map (Proc.devRef (τ := τ) .tc)).toFinset := by
  simp only [List.Forall]
  repeat' apply And.intro
  all_goals (simp only [nullary_writes, unary_writes, binary_writes, ternary_writes, Finset.singleton_subset_iff, List.mem_toFinset]; exact List.mem_map_of_mem (by decide))

/-- The references the loop's condition and body write. -/
abbrev loopW : List (Ref sig .tc) := condOps_W ++ (while0Ops0_W ++ (while0Ops0_1_W ++ (while0Ops0_2_W ++ (while0Ops0_3_W ++ (while0Ops0_4_W ++ while0Ops0_5_W)))))

/-- A buffer the loop does not write is, before every trip, as at the loop's entry. -/
theorem loop_keep (c : Dev nD) (r : Ref sig .tc) (hr : r ∉ loopW) :
    ∀ k, atK m k c (Proc.devRef .tc r) = entryContents preI m c (Proc.devRef .tc r)
  | 0 => rfl
  | k + 1 => by
    have hr' := hr
    simp only [loopW, List.mem_append, not_or] at hr'
    obtain ⟨hc, h0, h1, h2, h3, h4, h5⟩ := hr'
    rw [show atK m (k + 1) c = afterL bodyI (after condOps (atK m k c)) from rfl]
    simp only [afterL_cons, afterL_nil]
    rw [after_of_writes_sub while0Ops0_5 _ while0Ops0_5_writes h5, after_of_writes_sub while0Ops0_4 _ while0Ops0_4_writes h4,
      after_of_writes_sub while0Ops0_3 _ while0Ops0_3_writes h3, after_of_writes_sub while0Ops0_2 _ while0Ops0_2_writes h2,
      after_of_writes_sub while0Ops0_1 _ while0Ops0_1_writes h1, after_of_writes_sub while0Ops0 _ while0Ops0_writes h0,
      after_of_writes_sub condOps _ condOps_writes hc, loop_keep c r hr k]
    simp only [entryContents, afterL_cons, afterL_nil]

/-- The contents when the loop has ended and the last condition has been tested. -/
abbrev exitV (c : Dev nD) : Valuation τ sig (Elt F) := after condOps (atK m 4096 c)

/-- A buffer no part of the program writes ends as launched. -/
theorem final_keep (c : Dev nD) (r : Ref sig .tc) (h0 : r ∉ hostOps0_W) (h1 : r ∉ hostOps0_1_W) (h2 : r ∉ hostOps0_2_W) (h3 : r ∉ hostOps0_3_W)
    (hl : r ∉ loopW) (h4 : r ∉ post4_W) (h5 : r ∉ post5_W) (h6 : r ∉ post6_W) :
    finalContents condOps preI bodyI postI 4096 m c (Proc.devRef .tc r) = m ((c.tc : Thread nD τ).loc r) := by
  have hc : r ∉ condOps_W := fun h => hl (List.mem_append_left _ h)
  show afterL postI (after condOps (atK m 4096 c)) _ = _
  simp only [afterL_cons, afterL_nil]
  rw [after_of_writes_sub hostOps0_6 _ post6_writes h6, after_of_writes_sub hostOps0_5 _ post5_writes h5,
    after_of_writes_sub hostOps0_4 _ post4_writes h4, after_of_writes_sub condOps _ condOps_writes hc, loop_keep m c r hl]
  simp only [entryContents, afterL_cons, afterL_nil]
  rw [after_of_writes_sub hostOps0_3 _ hostOps0_3_writes h3, after_of_writes_sub hostOps0_2 _ hostOps0_2_writes h2,
    after_of_writes_sub hostOps0_1 _ hostOps0_1_writes h1, after_of_writes_sub hostOps0 _ hostOps0_writes h0]

/-- The run with the result named as the fold's and the arguments unchanged. -/
theorem run_out : θ_run defs (onTc (τ := τ) (main (F := F))) ⟨m, fun _ => 0, ρ⟩ fun r => ∀ c : Dev nD,
      r.2.mem ((c.tc : Thread nD τ).loc main_v107) = finalContents condOps preI bodyI postI 4096 m c (Proc.devRef .tc main_v107)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun r h c => ⟨h c main_v107 rfl,
    (h c main_arg0 rfl).trans (final_keep m c main_arg0 (by decide) (by decide +kernel) (by decide) (by decide) (by decide +kernel) (by decide) (by decide) (by decide)),
    (h c main_arg1 rfl).trans (final_keep m c main_arg1 (by decide) (by decide +kernel) (by decide) (by decide) (by decide +kernel) (by decide) (by decide) (by decide)),
    (h c main_arg2 rfl).trans (final_keep m c main_arg2 (by decide) (by decide +kernel) (by decide) (by decide) (by decide +kernel) (by decide) (by decide) (by decide)),
    (h c main_arg3 rfl).trans (final_keep m c main_arg3 (by decide) (by decide +kernel) (by decide) (by decide) (by decide +kernel) (by decide) (by decide) (by decide)),
    (h c main_arg4 rfl).trans (final_keep m c main_arg4 (by decide) (by decide +kernel) (by decide) (by decide) (by decide +kernel) (by decide) (by decide) (by decide))⟩)
    (run_fold m ρ)

/-- The reference leaves its arguments and every semaphore counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun r h => ⟨fun c => (h c).2, sem_eq_zero_of_no_sems (by decide) r.2⟩) (run_out m ρ)

end Cert.Proof.RI

end
-- ==== Proof.Math.Blend.lean ====
/- Compositing front to back, over the extended reals and free of any program: the transmittance, the sum of what each
   gaussian adds, why a loop may stop once the transmittance is under the threshold, and prefix products by doubling. -/
module

public import Idealize.ShloMosaic.PureOps.Ideal
public import Idealize.ShloMosaic.Lib.IdealHost
public import Idealize.ShloMosaic.Lib.Pointwise
public import Mathlib.Algebra.BigOperators.Intervals
public import Mathlib.Algebra.Order.BigOperators.Ring.Finset

@[expose] public section

noncomputable section

namespace Cert.Proof.Math

open Finset

/-- What is left of the light in front of gaussian `n`: the product of the first `n` factors `1 - al`. -/
def light (al : ℕ → EReal) (n : ℕ) : EReal := ∏ j ∈ range n, (1 - al j)

/-- What gaussian `g` adds, as a weight: `al g` times the light in front of it, if the light behind it is still `≥ th`. -/
def weight (th : EReal) (al : ℕ → EReal) (g : ℕ) : EReal := if th ≤ light al (g + 1) then al g * light al g else 0

/-- The colour after the first `n` gaussians. -/
def blend (th : EReal) (al col : ℕ → EReal) (n : ℕ) : EReal := ∑ g ∈ range n, weight th al g * col g

/-- Before any gaussian all the light is left. -/
theorem light_zero (al : ℕ → EReal) : light al 0 = 1 := rfl
/-- One more gaussian takes its share of the light. -/
theorem light_succ (al : ℕ → EReal) (n : ℕ) : light al (n + 1) = light al n * (1 - al n) := prod_range_succ _ _
/-- The light after `n + k` gaussians, from the light after `n`. -/
theorem light_add (al : ℕ → EReal) (n k : ℕ) : light al (n + k) = light al n * ∏ j ∈ range k, (1 - al (n + j)) :=
  prod_range_add _ _ _
/-- No gaussian blends to nothing. -/
theorem blend_zero (th : EReal) (al col : ℕ → EReal) : blend th al col 0 = 0 := rfl
/-- The blend of `n + k` gaussians is that of the first `n` and the terms of the next `k`. -/
theorem blend_add (th : EReal) (al col : ℕ → EReal) (n k : ℕ) :
    blend th al col (n + k) = blend th al col n + ∑ j ∈ range k, weight th al (n + j) * col (n + j) :=
  sum_range_add _ _ _

/-- Every opacity lies between 0 and 1. -/
def Unit01 (al : ℕ → EReal) : Prop := ∀ n, 0 ≤ al n ∧ al n ≤ 1

/-- One minus a number between 0 and 1 is between 0 and 1. -/
theorem one_sub_mem {a : EReal} (h0 : 0 ≤ a) (h1 : a ≤ 1) : 0 ≤ 1 - a ∧ 1 - a ≤ 1 := by
  have hb : a ≠ ⊥ := fun h => by subst h; exact absurd h0 (by decide)
  have ht : a ≠ ⊤ := fun h => by subst h; exact absurd h1 (by decide)
  lift a to ℝ using ⟨ht, hb⟩
  have e0 : (0 : ℝ) ≤ a := by exact_mod_cast h0
  have e1 : a ≤ (1 : ℝ) := by exact_mod_cast h1
  constructor
  · exact_mod_cast (by linarith : (0 : ℝ) ≤ 1 - a)
  · exact_mod_cast (by linarith : (1 : ℝ) - a ≤ 1)

variable {th : EReal} {al : ℕ → EReal}

/-- The light left is never negative. -/
theorem light_nonneg (h : Unit01 al) : ∀ n, 0 ≤ light al n
  | 0 => by rw [light_zero]; exact zero_le_one
  | n + 1 => by rw [light_succ]; exact mul_nonneg (light_nonneg h n) (one_sub_mem (h n).1 (h n).2).1

/-- The light only goes down. -/
theorem light_anti (h : Unit01 al) : Antitone (light al) :=
  antitone_nat_of_succ_le fun n => by
    rw [light_succ]
    calc light al n * (1 - al n) ≤ light al n * 1 := mul_le_mul_of_nonneg_left (one_sub_mem (h n).1 (h n).2).2 (light_nonneg h n)
      _ = light al n := mul_one _

/-- Once the light is under the threshold nothing more is added. -/
theorem blend_stop (h : Unit01 al) (col : ℕ → EReal) {n : ℕ} (hn : light al n < th) (k : ℕ) :
    blend th al col (n + k) = blend th al col n := by
  rw [blend_add, sum_eq_zero, add_zero]
  intro j _
  have : ¬ th ≤ light al (n + j + 1) := not_le.mpr ((light_anti h (by omega)).trans_lt hn)
  rw [weight, if_neg this, zero_mul]

/-! ### Prefix products by doubling -/

/-- The product of the last `d` entries up to and including `l` (of all of them, when there are fewer). -/
def win (v : ℕ → EReal) (d l : ℕ) : EReal := ∏ j ∈ Ico (l + 1 - d) (l + 1), v j

/-- A window of one is its own factor. -/
theorem win_one (v : ℕ → EReal) (l : ℕ) : win v 1 l = v l := by simp [win]

/-- A window twice as long is a window times the one before it. -/
theorem win_double (v : ℕ → EReal) (d l : ℕ) : win v (d + d) l = win v d l * (if l < d then 1 else win v d (l - d)) := by
  unfold win
  split
  · rw [mul_one, show l + 1 - (d + d) = l + 1 - d by omega]
  · rw [show l - d + 1 = l + 1 - d by omega, mul_comm,
      prod_Ico_consecutive _ (by omega) (by omega), show l + 1 - d - d = l + 1 - (d + d) by omega]

/-- A window at least as long as what there is, is the whole prefix. -/
theorem win_full (v : ℕ → EReal) {d l : ℕ} (h : l < d) : win v d l = ∏ j ∈ range (l + 1), v j := by
  rw [win, show l + 1 - d = 0 by omega, range_eq_Ico]

/-! ### One pixel's opacity -/

/-- The exponent of one gaussian at one pixel. -/
def sigma (y x mx my ca cb cc : EReal) : EReal :=
  Idealize.ShloMosaic.Ideal.ofBits .f32 0x3F000000#32 * (ca * (x - mx) * (x - mx) + cc * ((y - my) * (y - my))) + cb * (x - mx) * (y - my)

/-- The opacity before the test. -/
def glow (y x mx my ca cb cc op : EReal) : EReal :=
  min (Idealize.ShloMosaic.Ideal.ofBits .f32 0x3F7D70A4#32) (op * Idealize.ShloMosaic.Ideal.exp (-sigma y x mx my ca cb cc))

/-- The opacity of one gaussian at one pixel: zero where the exponent is negative or the opacity under 1/255. -/
def opac (y x mx my ca cb cc op : EReal) : EReal :=
  if 0 ≤ sigma y x mx my ca cb cc ∧ Idealize.ShloMosaic.Ideal.ofBits .f32 0x3B808081#32 ≤ glow y x mx my ca cb cc op then
    glow y x mx my ca cb cc op else 0

/-- The opacity test's threshold is not negative. -/
theorem thr_nonneg : (0 : EReal) ≤ Idealize.ShloMosaic.Ideal.ofBits .f32 0x3B808081#32 := by
  simp [Idealize.ShloMosaic.Ideal.ofBits, Idealize.ShloMosaic.Ideal.ieee]
  exact_mod_cast (by positivity : (0 : ℝ) ≤ 8421505 * (2 ^ 31)⁻¹)
/-- The opacity clamp is at most one. -/
theorem clamp_le : Idealize.ShloMosaic.Ideal.ofBits .f32 0x3F7D70A4#32 ≤ (1 : EReal) := by
  simp [Idealize.ShloMosaic.Ideal.ofBits, Idealize.ShloMosaic.Ideal.ieee]
  exact_mod_cast (by norm_num : (16609444 : ℝ) * (2 ^ 24)⁻¹ ≤ 1)

/-- An opacity lies between zero and one. -/
theorem opac_mem (y x mx my ca cb cc op : EReal) : 0 ≤ opac y x mx my ca cb cc op ∧ opac y x mx my ca cb cc op ≤ 1 := by
  unfold opac
  split
  · rename_i h
    exact ⟨thr_nonneg.trans h.2, (min_le_left _ _).trans clamp_le⟩
  · exact ⟨le_rfl, zero_le_one⟩

/-! ### The picture -/

open Idealize.ShloMosaic in
/-- The coordinate of pixel `n`'s middle. -/
def mid (n : ℕ) : EReal := FloatOps.sitofp (F := Ideal) (w := 32) .f32 (BitVec.ofNat 32 n) + Ideal.ofBits .f32 0x3F000000#32

open Idealize.ShloMosaic in
/-- Gaussian `n`'s opacity at row `h`, pixel `w`, zero past the last gaussian. -/
def alpha (mean : (⟨2, ![4096, 2]⟩ : Shape).Idx → EReal) (con : (⟨2, ![4096, 3]⟩ : Shape).Idx → EReal)
    (op : (⟨1, ![4096]⟩ : Shape).Idx → EReal) (h w n : ℕ) : EReal :=
  if hn : n < 4096 then
    opac (mid h) (mid w) (mean (ix2 ⟨n, hn⟩ 0)) (mean (ix2 ⟨n, hn⟩ 1)) (con (ix2 ⟨n, hn⟩ 0)) (con (ix2 ⟨n, hn⟩ 1)) (con (ix2 ⟨n, hn⟩ 2)) (op (ix1 ⟨n, hn⟩))
  else 0

open Idealize.ShloMosaic in
/-- Gaussian `n`'s colour in channel `c`, zero past the last gaussian. -/
def shade (colr : (⟨2, ![4096, 3]⟩ : Shape).Idx → EReal) (c : Fin 3) (n : ℕ) : EReal := if hn : n < 4096 then colr (ix2 ⟨n, hn⟩ c) else 0

open Idealize.ShloMosaic in
/-- The picture the sorted gaussians make, at row `h`, pixel `w` and channel `c`. -/
def picture (mean : (⟨2, ![4096, 2]⟩ : Shape).Idx → EReal) (con colr : (⟨2, ![4096, 3]⟩ : Shape).Idx → EReal)
    (op : (⟨1, ![4096]⟩ : Shape).Idx → EReal) (h w : ℕ) (c : Fin 3) : EReal :=
  blend (Ideal.ofBits .f32 0x38D1B717#32) (alpha mean con op h w) (shade colr c) 4096

open Idealize.ShloMosaic in
/-- Every opacity lies between zero and one. -/
theorem alpha_unit (mean : (⟨2, ![4096, 2]⟩ : Shape).Idx → EReal) (con : (⟨2, ![4096, 3]⟩ : Shape).Idx → EReal)
    (op : (⟨1, ![4096]⟩ : Shape).Idx → EReal) (h w : ℕ) : Unit01 (alpha mean con op h w) := fun n => by
  unfold alpha
  split
  · exact opac_mem _ _ _ _ _ _ _ _
  · exact ⟨le_rfl, zero_le_one⟩

end Cert.Proof.Math

end
-- ==== Proof.PI.Value.lean ====
/- The kernel body's value over the extended reals: chunk by chunk, the loop's transmittance is the light in front of the
   chunk and its colours the blend so far, so the block it leaves is the blend of all gaussians. -/
module

public import proofs.«01_k».proof.Proof.PI.Body
public import proofs.«01_k».proof.Proof.Math.Blend
public import Idealize.ShloMosaic.Lib.Pointwise
public import Idealize.ShloMosaic.Lib.Pipeline.Value

@[expose] public section

set_option maxRecDepth 16384

noncomputable section

namespace Cert.Proof.PI

open Cert.KernelIdeal Cert.KernelIdeal.Gen
open Idealize.ShloMosaic
open Cert.Proof.Math

/-- The transmittance threshold. -/
abbrev th : EReal := Ideal.ofBits .f32 0x38D1B717#32

/-! ### The payloads at an index -/

/-- The masked opacity payload is the pixel's opacity. -/
theorem opac_apply (v5 : FVec Ideal S256x1 .f32) (v1 : Ideal .f32) (v13 v16 v19 v22 v25 v28 : Vec Ideal S1x128 .f32) (w : Fin 256) (l : Fin 128) :
    k0_pay13 (k0_pay10 v5 v1 v13 v16 v19 v22 v25 v28) (k0_pay11 v5 v1 v13 v16 v19 v22 v25) (k0_pay12 v5 v1 v13 v16 v19 v22 v25 v28) (ix2 w l)
      = opac v1 (v5 (ix2 w 0)) (v13 (ix2 0 l)) (v16 (ix2 0 l)) (v19 (ix2 0 l)) (v22 (ix2 0 l)) (v25 (ix2 0 l)) (v28 (ix2 0 l)) := by
  pointwise [k0_pay9, k0_pay10, k0_pay11, k0_pay12, k0_pay13]
  unfold opac glow sigma
  generalize (Ideal.ofBits FTy.f32 1056964608#32 *
                  (v19 (ix2 0 l) * (v5 (ix2 w 0) - v13 (ix2 0 l)) * (v5 (ix2 w 0) - v13 (ix2 0 l)) +
                    v25 (ix2 0 l) * ((v1 - v16 (ix2 0 l)) * (v1 - v16 (ix2 0 l)))) +
                v22 (ix2 0 l) * (v5 (ix2 w 0) - v13 (ix2 0 l)) * (v1 - v16 (ix2 0 l)) : EReal) = s
  rw [zero_sub]
  generalize min (Ideal.ofBits FTy.f32 1065185444#32) (v28 (ix2 0 l) * Ideal.exp (-s)) = a
  by_cases h1 : (0 : EReal) ≤ s <;> by_cases h2 : Ideal.ofBits FTy.f32 998277249#32 ≤ a <;> simp [h1, h2, IntOp.andi, Scalar.select]

/-- One round of the doubling, by `d`: windows of `d` become windows of `2 d`. -/
theorem round1 (f : Fin 256 → ℕ → EReal) (v : FVec Ideal S256x128 .f32) (hv : ∀ w l, v (ix2 w l) = win (f w) 1 l) (w : Fin 256) (l : Fin 128) :
    mulf v (concatenate S256x128 1 [⟨S256x1, broadcast S256x1 (Scalar.ofBits .f32 0x3F800000#32)⟩, ⟨S256x127, extractStridedSlice S256x127 ![0, 0] v slices_S256x128_o0_0_S256x127⟩] concatenates_S256x1_S256x127_S256x128_d1) (ix2 w l) = win (f w) 2 l := by
  pointwise
  rw [win_double _ 1 l, hv]
  congr 1
  split
  · rfl
  · exact hv _ _
/-- The same from windows of 2 to windows of 4. -/
theorem round2 (f : Fin 256 → ℕ → EReal) (v : FVec Ideal S256x128 .f32) (hv : ∀ w l, v (ix2 w l) = win (f w) 2 l) (w : Fin 256) (l : Fin 128) :
    mulf v (concatenate S256x128 1 [⟨S256x2, broadcast S256x2 (Scalar.ofBits .f32 0x3F800000#32)⟩, ⟨S256x126, extractStridedSlice S256x126 ![0, 0] v slices_S256x128_o0_0_S256x126⟩] concatenates_S256x2_S256x126_S256x128_d1) (ix2 w l) = win (f w) 4 l := by
  pointwise
  rw [win_double _ 2 l, hv]
  congr 1
  split
  · rfl
  · exact hv _ _
/-- The same from windows of 4 to windows of 8. -/
theorem round4 (f : Fin 256 → ℕ → EReal) (v : FVec Ideal S256x128 .f32) (hv : ∀ w l, v (ix2 w l) = win (f w) 4 l) (w : Fin 256) (l : Fin 128) :
    mulf v (concatenate S256x128 1 [⟨S256x4, broadcast S256x4 (Scalar.ofBits .f32 0x3F800000#32)⟩, ⟨S256x124, extractStridedSlice S256x124 ![0, 0] v slices_S256x128_o0_0_S256x124⟩] concatenates_S256x4_S256x124_S256x128_d1) (ix2 w l) = win (f w) 8 l := by
  pointwise
  rw [win_double _ 4 l, hv]
  congr 1
  split
  · rfl
  · exact hv _ _
/-- The same from windows of 8 to windows of 16. -/
theorem round8 (f : Fin 256 → ℕ → EReal) (v : FVec Ideal S256x128 .f32) (hv : ∀ w l, v (ix2 w l) = win (f w) 8 l) (w : Fin 256) (l : Fin 128) :
    mulf v (concatenate S256x128 1 [⟨S256x8, broadcast S256x8 (Scalar.ofBits .f32 0x3F800000#32)⟩, ⟨S256x120, extractStridedSlice S256x120 ![0, 0] v slices_S256x128_o0_0_S256x120⟩] concatenates_S256x8_S256x120_S256x128_d1) (ix2 w l) = win (f w) 16 l := by
  pointwise
  rw [win_double _ 8 l, hv]
  congr 1
  split
  · rfl
  · exact hv _ _
/-- The same from windows of 16 to windows of 32. -/
theorem round16 (f : Fin 256 → ℕ → EReal) (v : FVec Ideal S256x128 .f32) (hv : ∀ w l, v (ix2 w l) = win (f w) 16 l) (w : Fin 256) (l : Fin 128) :
    mulf v (concatenate S256x128 1 [⟨S256x16, broadcast S256x16 (Scalar.ofBits .f32 0x3F800000#32)⟩, ⟨S256x112, extractStridedSlice S256x112 ![0, 0] v slices_S256x128_o0_0_S256x112⟩] concatenates_S256x16_S256x112_S256x128_d1) (ix2 w l) = win (f w) 32 l := by
  pointwise
  rw [win_double _ 16 l, hv]
  congr 1
  split
  · rfl
  · exact hv _ _
/-- The same from windows of 32 to windows of 64. -/
theorem round32 (f : Fin 256 → ℕ → EReal) (v : FVec Ideal S256x128 .f32) (hv : ∀ w l, v (ix2 w l) = win (f w) 32 l) (w : Fin 256) (l : Fin 128) :
    mulf v (concatenate S256x128 1 [⟨S256x32, broadcast S256x32 (Scalar.ofBits .f32 0x3F800000#32)⟩, ⟨S256x96, extractStridedSlice S256x96 ![0, 0] v slices_S256x128_o0_0_S256x96⟩] concatenates_S256x32_S256x96_S256x128_d1) (ix2 w l) = win (f w) 64 l := by
  pointwise
  rw [win_double _ 32 l, hv]
  congr 1
  split
  · rfl
  · exact hv _ _
/-- The same from windows of 64 to windows of 128. -/
theorem round64 (f : Fin 256 → ℕ → EReal) (v : FVec Ideal S256x128 .f32) (hv : ∀ w l, v (ix2 w l) = win (f w) 64 l) (w : Fin 256) (l : Fin 128) :
    mulf v (concatenate S256x128 1 [⟨S256x64, broadcast S256x64 (Scalar.ofBits .f32 0x3F800000#32)⟩, ⟨S256x64, extractStridedSlice S256x64 ![0, 0] v slices_S256x128_o0_0_S256x64⟩] concatenates_S256x64_S256x64_S256x128_d1) (ix2 w l) = win (f w) 128 l := by
  pointwise
  rw [win_double _ 64 l, hv]
  congr 1
  split
  · rfl
  · exact hv _ _

/-- The doubling payload at lane `l` is the product of one minus the first `l + 1` opacities. -/
theorem pref_apply (g : Fin 256 → ℕ → EReal) (a : FVec Ideal S256x128 .f32) (b c : IVec S256x128 1)
    (hg : ∀ w l, k0_pay13 a b c (ix2 w l) = g w (l : Fin 128)) (w : Fin 256) (l : Fin 128) :
    k0_pay14 a b c (ix2 w l) = ∏ r ∈ Finset.range (l + 1), (1 - g w r) := by
  rw [← win_full (fun r => 1 - g w r) l.isLt]
  refine round64 (fun w r => 1 - g w r) _ (fun w l => ?_) w l
  refine round32 (fun w r => 1 - g w r) _ (fun w l => ?_) w l
  refine round16 (fun w r => 1 - g w r) _ (fun w l => ?_) w l
  refine round8 (fun w r => 1 - g w r) _ (fun w l => ?_) w l
  refine round4 (fun w r => 1 - g w r) _ (fun w l => ?_) w l
  refine round2 (fun w r => 1 - g w r) _ (fun w l => ?_) w l
  refine round1 (fun w r => 1 - g w r) _ (fun w l => ?_) w l
  rw [win_one, ← hg]
  pointwise

/-- The colour payload adds the weights times the chunk's colours. -/
theorem addc_apply (a : FVec Ideal S256x3 .f32) (u : FVec Ideal S256x128 .f32) (x : Vec Ideal S128x3 .f32) (w : Fin 256) (c : Fin 3) :
    k0_pay7 a u x (ix2 w c) = a (ix2 w c) + ∑ l : Fin 128, u (ix2 w l) * x (ix2 l c) := by
  pointwise [k0_pay7]

/-! ### A chunk -/

section Value

variable (i : grid0.Coords) (x0 x1 x2 x3 x4 x5 : Vec Ideal S32x128 .f32) (x6 : Vec Ideal S4096x3 .f32)

/-- Gaussian `n`'s opacity at pixel `w` of row `i`, zero past the last gaussian. -/
def al (w : Fin 256) (n : ℕ) : EReal :=
  if h : n < 4096 then
    opac (k0_pay1 (F := Ideal) i) (k0_pay2 (F := Ideal) (ix2 w 0)) (x0 (ix2 ⟨n / 128, by omega⟩ ⟨n % 128, by omega⟩)) (x1 (ix2 ⟨n / 128, by omega⟩ ⟨n % 128, by omega⟩))
      (x2 (ix2 ⟨n / 128, by omega⟩ ⟨n % 128, by omega⟩)) (x3 (ix2 ⟨n / 128, by omega⟩ ⟨n % 128, by omega⟩))
      (x4 (ix2 ⟨n / 128, by omega⟩ ⟨n % 128, by omega⟩)) (x5 (ix2 ⟨n / 128, by omega⟩ ⟨n % 128, by omega⟩))
  else 0

/-- Gaussian `n`'s colour in channel `c`, zero past the last gaussian. -/
def col (c : Fin 3) (n : ℕ) : EReal := if h : n < 4096 then x6 (ix2 ⟨n, h⟩ c) else 0

/-- Every opacity the body sees lies between zero and one. -/
theorem al_unit (w : Fin 256) : Unit01 (al i x0 x1 x2 x3 x4 x5 w) := fun n => by
  unfold al
  split
  · exact opac_mem _ _ _ _ _ _ _ _
  · exact ⟨le_rfl, zero_le_one⟩

/-- The row offset of the body is the chunk number. -/
theorem off1_tab : ∀ j : Fin 32, k0_off1 (BitVec.ofNat 32 j.val) 0 = j.val ∧ k0_off1 (BitVec.ofNat 32 j.val) 1 = 0 := by decide +kernel
/-- The colours' row offset is 128 times the chunk number. -/
theorem off2_tab : ∀ j : Fin 32, k0_off2 (BitVec.ofNat 32 j.val) 0 = 128 * j.val ∧ k0_off2 (BitVec.ofNat 32 j.val) 1 = 0 := by decide +kernel

/-- A chunk's load of a parameter array reads its row of the array. -/
theorem row_apply (x : Vec Ideal S32x128 .f32) (j : ℕ) (hj : j < 32) (l : Fin 128) :
    View.ld x (rowR j hj) (ix2 0 l) = x (ix2 ⟨j, hj⟩ l) := by
  pointwise
  congr 2
  · exact Fin.ext (off1_tab ⟨j, hj⟩).1
  · exact Fin.ext (by show k0_off1 (BitVec.ofNat 32 j) 1 + l.val = l.val; rw [(off1_tab ⟨j, hj⟩).2, Nat.zero_add])

/-- A chunk's load of the colours reads its 128 rows of the array. -/
theorem col_apply (j : ℕ) (hj : j < 32) (l : Fin 128) (c : Fin 3) :
    View.ld x6 (colR j hj) (ix2 l c) = col x6 c (128 * j + l) := by
  unfold col
  rw [dif_pos (by omega)]
  pointwise
  congr 2
  · exact Fin.ext (by show k0_off2 (BitVec.ofNat 32 j) 0 + l.val = _; rw [(off2_tab ⟨j, hj⟩).1])
  · exact Fin.ext (by show k0_off2 (BitVec.ofNat 32 j) 1 + c.val = _; rw [(off2_tab ⟨j, hj⟩).2, Nat.zero_add])

/-- Chunk `j`'s masked opacities are the gaussians' from `128 j` on. -/
theorem chunk_al (j : ℕ) (hj : j < 32) (w : Fin 256) (l : Fin 128) :
    k0_pay13 (raw i x0 x1 x2 x3 x4 x5 j hj) (mskS i x0 x1 x2 x3 x4 j hj) (mskA i x0 x1 x2 x3 x4 x5 j hj) (ix2 w l)
      = al i x0 x1 x2 x3 x4 x5 w (128 * j + l) := by
  unfold raw mskS mskA
  rw [opac_apply]
  unfold al
  have hq : (⟨(128 * j + l.val) / 128, by omega⟩ : Fin 32) = ⟨j, hj⟩ := Fin.ext (by show _ / 128 = j; omega)
  have hr : (⟨(128 * j + l.val) % 128, by omega⟩ : Fin 128) = l := Fin.ext (by show _ % 128 = l.val; omega)
  rw [dif_pos (by omega), hq, hr]
  congr 1 <;> exact row_apply _ j hj l

/-- Chunk `j`'s prefix products. -/
theorem chunk_pref (j : ℕ) (hj : j < 32) (w : Fin 256) (l : Fin 128) :
    k0_pay14 (raw i x0 x1 x2 x3 x4 x5 j hj) (mskS i x0 x1 x2 x3 x4 j hj) (mskA i x0 x1 x2 x3 x4 x5 j hj) (ix2 w l)
      = ∏ r ∈ Finset.range (l + 1), (1 - al i x0 x1 x2 x3 x4 x5 w (128 * j + r)) :=
  pref_apply (fun w r => al i x0 x1 x2 x3 x4 x5 w (128 * j + r)) _ _ _ (chunk_al i x0 x1 x2 x3 x4 x5 j hj) w l

/-- The transmittance a chunk starts from is the light in front of its first gaussian. -/
def IsLight (j : ℕ) (T : FVec Ideal S256x1 .f32) : Prop := ∀ w, T (ix2 w 0) = light (al i x0 x1 x2 x3 x4 x5 w) (128 * j)

/-- The colours a chunk starts from are the blend of the gaussians before it. -/
def IsBlend (j : ℕ) (a : FVec Ideal S256x3 .f32) : Prop :=
  ∀ w c, a (ix2 w c) = blend th (al i x0 x1 x2 x3 x4 x5 w) (col x6 c) (128 * j)

variable {i x0 x1 x2 x3 x4 x5 x6}

/-- A chunk takes the light left to that after its gaussians. -/
theorem stepT_light {j : ℕ} (hj : j < 32) {T : FVec Ideal S256x1 .f32} (hT : IsLight i x0 x1 x2 x3 x4 x5 j T) :
    IsLight i x0 x1 x2 x3 x4 x5 (j + 1) (stepT i x0 x1 x2 x3 x4 x5 j hj T) := fun w => by
  unfold stepT
  pointwise [k0_pay8]
  rw [chunk_pref, hT w, show 128 * (j + 1) = 128 * j + 128 by omega, light_add]
  rfl

/-- A chunk's masked weights are the gaussians' weights. -/
theorem chunk_weight {j : ℕ} (hj : j < 32) {T : FVec Ideal S256x1 .f32} (hT : IsLight i x0 x1 x2 x3 x4 x5 j T) (w : Fin 256) (l : Fin 128) :
    k0_pay15 T (raw i x0 x1 x2 x3 x4 x5 j hj) (mskS i x0 x1 x2 x3 x4 j hj) (mskA i x0 x1 x2 x3 x4 x5 j hj) (ix2 w l)
      = weight th (al i x0 x1 x2 x3 x4 x5 w) (128 * j + l) := by
  pointwise [k0_pay15]
  rw [chunk_pref, chunk_al, hT w, ← light_add]
  unfold weight
  have hb : light (al i x0 x1 x2 x3 x4 x5 w) (128 * j) * (if h : (l : ℕ) < 1 then (1 : EReal) else
      k0_pay14 (raw i x0 x1 x2 x3 x4 x5 j hj) (mskS i x0 x1 x2 x3 x4 j hj) (mskA i x0 x1 x2 x3 x4 x5 j hj) (ix2 w ⟨(l : ℕ) - 1, by omega⟩))
        = light (al i x0 x1 x2 x3 x4 x5 w) (128 * j + l) := by
    split
    · rw [mul_one, show (l : ℕ) = 0 by omega, Nat.add_zero]
    · rw [chunk_pref, show ((⟨(l : ℕ) - 1, by omega⟩ : Fin 128) : ℕ) + 1 = l by show (l : ℕ) - 1 + 1 = l; omega, ← light_add]
  rw [hb]
  rfl

/-- A chunk takes the blend to that with its gaussians. -/
theorem stepA_blend {j : ℕ} (hj : j < 32) {T : FVec Ideal S256x1 .f32} {a : FVec Ideal S256x3 .f32}
    (hT : IsLight i x0 x1 x2 x3 x4 x5 j T) (ha : IsBlend i x0 x1 x2 x3 x4 x5 x6 j a) :
    IsBlend i x0 x1 x2 x3 x4 x5 x6 (j + 1) (stepA i x0 x1 x2 x3 x4 x5 x6 j hj T a) := fun w c => by
  unfold stepA
  refine (addc_apply _ _ _ w c).trans ?_
  rw [ha w c, show 128 * (j + 1) = 128 * j + 128 by omega, blend_add, Finset.sum_range]
  congr 1
  refine Finset.sum_congr rfl fun l _ => ?_
  exact congrArg₂ (· * ·) (chunk_weight hj hT w l) (col_apply x6 j hj l c)

/-- Where the loop's test fails, every pixel's transmittance is under the threshold. -/
theorem dark {T : FVec Ideal S256x1 .f32} (h : ¬ bright T = 1#1) (w : Fin 256) : T (ix2 w 0) < th := by
  refine not_le.mp fun hw => h ?_
  unfold bright
  have hm : T (ix2 w 0) ≤ k0_pay6 T := by
    pointwise [k0_pay6]
    exact Finset.le_fold_max (T (ix2 w 0)) |>.mpr (.inr ⟨(w, 0), Finset.mem_univ _, le_rfl⟩)
  exact (Ideal.cmp_oge_eq_one _ _).mpr (hw.trans hm)

/-- From any chunk the loop can reach, it returns the blend of all 4096 gaussians. -/
theorem accFrom_blend : ∀ (k j : ℕ) (T : FVec Ideal S256x1 .f32) (a : FVec Ideal S256x3 .f32), j + k = 32 →
    IsLight i x0 x1 x2 x3 x4 x5 j T → IsBlend i x0 x1 x2 x3 x4 x5 x6 j a →
    IsBlend i x0 x1 x2 x3 x4 x5 x6 32 (accFrom i x0 x1 x2 x3 x4 x5 x6 k j T a)
  | 0, j, T, a, hk, _, ha => by obtain rfl : j = 32 := by omega
                                exact ha
  | k + 1, j, T, a, hk, hT, ha => by
    unfold accFrom
    by_cases h : j < 32 ∧ bright T = 1#1
    · rw [dif_pos h]
      exact accFrom_blend k (j + 1) _ _ (by omega) (stepT_light h.1 hT) (stepA_blend h.1 hT ha)
    · rw [dif_neg h]
      have hd : ¬ bright T = 1#1 := fun hb => h ⟨by omega, hb⟩
      intro w c
      rw [ha w c, show 128 * 32 = 128 * j + (4096 - 128 * j) by omega, blend_stop (al_unit i x0 x1 x2 x3 x4 x5 w)]
      rw [← hT w]
      exact dark hd w

variable (i x0 x1 x2 x3 x4 x5 x6)

/-- The block the body leaves holds, at pixel `w` and channel `c`, the blend of all gaussians. -/
theorem outv_apply (z : Fin 1) (w : Fin 256) (c : Fin 3) :
    outv i x0 x1 x2 x3 x4 x5 x6 (ix3 z w c) = blend th (al i x0 x1 x2 x3 x4 x5 w) (col x6 c) 4096 := by
  have h := accFrom_blend (i := i) (x0 := x0) (x1 := x1) (x2 := x2) (x3 := x3) (x4 := x4) (x5 := x5) (x6 := x6) 32 0 (k0_pay3 (F := Ideal))
    (k0_pay4 (F := Ideal)) rfl (fun w => by pointwise [k0_pay3]; rfl) (fun w c => by pointwise [k0_pay4]; rfl) w c
  rw [← h]
  unfold outv
  rw [View.canon_unit_zero (by funext a; fin_cases a <;> rfl)]
  pointwise [k0_pay5]

end Value

end Cert.Proof.PI

end
-- ==== Proof.PI.Out.lean ====
/- The whole picture the kernel leaves: each window's array as the region finds it, and the output array cell by cell,
   as the blend of the gaussians in depth order. At the real scalars. -/
module

public import proofs.«01_k».proof.Proof.PI.Frame
public import proofs.«01_k».proof.Proof.PI.Value
public import Idealize.ShloMosaic.Lib.Pipeline.ValueKit
public import Idealize.ShloMosaic.Lib.StableHlo.RunRead

@[expose] public section

set_option maxRecDepth 16384

noncomputable section

namespace Cert.Proof.PI

open Cert.KernelIdeal Cert.KernelIdeal.Gen
open Idealize.ShloMosaic Idealize.ShloMosaic.TcCoe
open Cert.Proof.Math

variable (m : (ℓ : Loc nD τ sig) → Buf (Elt Ideal) ℓ)

/-- The depth order: the gaussians' numbers sorted by depth. -/
def order (d : FVec Ideal S4096 .f32) : IVec S4096 32 := (Host.sort2 S4096 0 comparator_f32_i32_d0 d (iotaInDim S4096 32 0)).2

/-- The depth order as a column of row numbers, negative ones counted from the end. -/
def rows (d : FVec Ideal S4096 .f32) : IVec S4096x1 32 :=
  broadcastInDim S4096x1 ![0] bcast_S4096_S4096x1_0
    (select (cmpi .slt (order d) (broadcastInDim S4096 ![] bcast_S_S4096 (constantI S_ 32 0#32)))
      (addi (order d) (broadcastInDim S4096 ![] bcast_S_S4096 (constantI S_ 32 4096#32))) (order d))

/-- The means in depth order. -/
def mean (c : Dev nD) : FVec Ideal S4096x2 .f32 :=
  Host.gather gather_S4096x2_S4096x1_S4096x2_1_0_n_n_0_1_12 (m ((c.tc : Thread nD τ).loc main_arg0)) (rows (m ((c.tc : Thread nD τ).loc main_arg4)))
/-- The conics in depth order. -/
def con (c : Dev nD) : FVec Ideal S4096x3 .f32 :=
  Host.gather gather_S4096x3_S4096x1_S4096x3_1_0_n_n_0_1_13 (m ((c.tc : Thread nD τ).loc main_arg1)) (rows (m ((c.tc : Thread nD τ).loc main_arg4)))
/-- The colours in depth order. -/
def colr (c : Dev nD) : FVec Ideal S4096x3 .f32 :=
  Host.gather gather_S4096x3_S4096x1_S4096x3_1_0_n_n_0_1_13 (m ((c.tc : Thread nD τ).loc main_arg2)) (rows (m ((c.tc : Thread nD τ).loc main_arg4)))
/-- The opacities in depth order. -/
def opc (c : Dev nD) : FVec Ideal S4096 .f32 :=
  Host.gather gather_S4096_S4096x1_S4096_n_0_n_n_0_1_1 (m ((c.tc : Thread nD τ).loc main_arg3)) (rows (m ((c.tc : Thread nD τ).loc main_arg4)))

/-! ### The arrays the region finds -/

/-- Window 0's array is the mean's x of each gaussian, laid out in rows of 128. -/
theorem V_v31 (c : Dev nD) : (V m c main_v31 : S32x128.Idx → EReal) = shapeCast S32x128 (shapeCast S4096 (extractStridedSlice S4096x1 ![0, 0] (mean m c) slices_S4096x2_S4096x1_0_0) shapeCasts_S4096x1_S4096) shapeCasts_S4096_S32x128 := by
  unfold V
  simp only [List.flatten_cons, List.flatten_nil, List.append_nil, StableHlo.after_append]
  after_reads_simp
  rfl

/-- Window 1's array is the mean's y of each gaussian, laid out in rows of 128. -/
theorem V_v34 (c : Dev nD) : (V m c main_v34 : S32x128.Idx → EReal) = shapeCast S32x128 (shapeCast S4096 (extractStridedSlice S4096x1 ![0, 1] (mean m c) slices_S4096x2_S4096x1_0_1) shapeCasts_S4096x1_S4096) shapeCasts_S4096_S32x128 := by
  unfold V
  simp only [List.flatten_cons, List.flatten_nil, List.append_nil, StableHlo.after_append]
  after_reads_simp
  rfl

/-- Window 2's array is the first conic entry of each gaussian, laid out in rows of 128. -/
theorem V_v37 (c : Dev nD) : (V m c main_v37 : S32x128.Idx → EReal) = shapeCast S32x128 (shapeCast S4096 (extractStridedSlice S4096x1 ![0, 0] (con m c) slices_S4096x3_S4096x1_0_0) shapeCasts_S4096x1_S4096) shapeCasts_S4096_S32x128 := by
  unfold V
  simp only [List.flatten_cons, List.flatten_nil, List.append_nil, StableHlo.after_append]
  after_reads_simp
  rfl

/-- Window 3's array is the second conic entry of each gaussian, laid out in rows of 128. -/
theorem V_v40 (c : Dev nD) : (V m c main_v40 : S32x128.Idx → EReal) = shapeCast S32x128 (shapeCast S4096 (extractStridedSlice S4096x1 ![0, 1] (con m c) slices_S4096x3_S4096x1_0_1) shapeCasts_S4096x1_S4096) shapeCasts_S4096_S32x128 := by
  unfold V
  simp only [List.flatten_cons, List.flatten_nil, List.append_nil, StableHlo.after_append]
  after_reads_simp
  rfl

/-- Window 4's array is the third conic entry of each gaussian, laid out in rows of 128. -/
theorem V_v43 (c : Dev nD) : (V m c main_v43 : S32x128.Idx → EReal) = shapeCast S32x128 (shapeCast S4096 (extractStridedSlice S4096x1 ![0, 2] (con m c) slices_S4096x3_S4096x1_0_2) shapeCasts_S4096x1_S4096) shapeCasts_S4096_S32x128 := by
  unfold V
  simp only [List.flatten_cons, List.flatten_nil, List.append_nil, StableHlo.after_append]
  after_reads_simp
  rfl

/-- Window 5's array is the opacity of each gaussian, laid out in rows of 128. -/
theorem V_v44 (c : Dev nD) : (V m c main_v44 : S32x128.Idx → EReal) = shapeCast S32x128 (opc m c) shapeCasts_S4096_S32x128 := by
  unfold V
  simp only [List.flatten_cons, List.flatten_nil, List.append_nil, StableHlo.after_append]
  after_reads_simp
  rfl

/-- Window 6's array is the colours. -/
theorem V_v21 (c : Dev nD) : (V m c main_v21 : S4096x3.Idx → EReal) = colr m c := by
  unfold V
  simp only [List.flatten_cons, List.flatten_nil, List.append_nil, StableHlo.after_append]
  after_reads_simp
  rfl

/-! ### The blocks, entry by entry -/

/-- Window 0 stays on the whole array. -/
theorem idx0 : ∀ t : Fin (cfg0 (F := Ideal)).N, win0_0.index t = ![0, 0] := (by decide +kernel : ∀ t : Fin grid0.N, win0_0.index t = ![0, 0])
/-- Window 1 stays on the whole array. -/
theorem idx1 : ∀ t : Fin (cfg0 (F := Ideal)).N, win0_1.index t = ![0, 0] := (by decide +kernel : ∀ t : Fin grid0.N, win0_1.index t = ![0, 0])
/-- Window 2 stays on the whole array. -/
theorem idx2 : ∀ t : Fin (cfg0 (F := Ideal)).N, win0_2.index t = ![0, 0] := (by decide +kernel : ∀ t : Fin grid0.N, win0_2.index t = ![0, 0])
/-- Window 3 stays on the whole array. -/
theorem idx3 : ∀ t : Fin (cfg0 (F := Ideal)).N, win0_3.index t = ![0, 0] := (by decide +kernel : ∀ t : Fin grid0.N, win0_3.index t = ![0, 0])
/-- Window 4 stays on the whole array. -/
theorem idx4 : ∀ t : Fin (cfg0 (F := Ideal)).N, win0_4.index t = ![0, 0] := (by decide +kernel : ∀ t : Fin grid0.N, win0_4.index t = ![0, 0])
/-- Window 5 stays on the whole array. -/
theorem idx5 : ∀ t : Fin (cfg0 (F := Ideal)).N, win0_5.index t = ![0, 0] := (by decide +kernel : ∀ t : Fin grid0.N, win0_5.index t = ![0, 0])
/-- Window 6 stays on the whole array. -/
theorem idx6 : ∀ t : Fin (cfg0 (F := Ideal)).N, win0_6.index t = ![0, 0] := (by decide +kernel : ∀ t : Fin grid0.N, win0_6.index t = ![0, 0])

/-- Window 0's block at row `a`, lane `b` is the mean's x of gaussian `128 a + b`. -/
theorem in0 (c : Dev nD) (t : Fin (cfg0 (F := Ideal)).N) (a : Fin 32) (b : Fin 128) :
    (iblk m c 0 t : S32x128.Idx → EReal) (ix2 a b) = mean m c (ix2 ⟨a * 128 + b, by omega⟩ 0) := by
  have : (iblk m c 0 t : S32x128.Idx → EReal) (ix2 a b) = (V m c main_v31 : S32x128.Idx → EReal) (ix2 a b) := by
    blk_ext [iblk, idx0 t]
  rw [this, V_v31]
  pointwise

/-- Window 1's block at row `a`, lane `b` is the mean's y of gaussian `128 a + b`. -/
theorem in1 (c : Dev nD) (t : Fin (cfg0 (F := Ideal)).N) (a : Fin 32) (b : Fin 128) :
    (iblk m c 1 t : S32x128.Idx → EReal) (ix2 a b) = mean m c (ix2 ⟨a * 128 + b, by omega⟩ 1) := by
  have : (iblk m c 1 t : S32x128.Idx → EReal) (ix2 a b) = (V m c main_v34 : S32x128.Idx → EReal) (ix2 a b) := by
    blk_ext [iblk, idx1 t]
  rw [this, V_v34]
  pointwise

/-- Window 2's block at row `a`, lane `b` is the first conic entry of gaussian `128 a + b`. -/
theorem in2 (c : Dev nD) (t : Fin (cfg0 (F := Ideal)).N) (a : Fin 32) (b : Fin 128) :
    (iblk m c 2 t : S32x128.Idx → EReal) (ix2 a b) = con m c (ix2 ⟨a * 128 + b, by omega⟩ 0) := by
  have : (iblk m c 2 t : S32x128.Idx → EReal) (ix2 a b) = (V m c main_v37 : S32x128.Idx → EReal) (ix2 a b) := by
    blk_ext [iblk, idx2 t]
  rw [this, V_v37]
  pointwise

/-- Window 3's block at row `a`, lane `b` is the second conic entry of gaussian `128 a + b`. -/
theorem in3 (c : Dev nD) (t : Fin (cfg0 (F := Ideal)).N) (a : Fin 32) (b : Fin 128) :
    (iblk m c 3 t : S32x128.Idx → EReal) (ix2 a b) = con m c (ix2 ⟨a * 128 + b, by omega⟩ 1) := by
  have : (iblk m c 3 t : S32x128.Idx → EReal) (ix2 a b) = (V m c main_v40 : S32x128.Idx → EReal) (ix2 a b) := by
    blk_ext [iblk, idx3 t]
  rw [this, V_v40]
  pointwise

/-- Window 4's block at row `a`, lane `b` is the third conic entry of gaussian `128 a + b`. -/
theorem in4 (c : Dev nD) (t : Fin (cfg0 (F := Ideal)).N) (a : Fin 32) (b : Fin 128) :
    (iblk m c 4 t : S32x128.Idx → EReal) (ix2 a b) = con m c (ix2 ⟨a * 128 + b, by omega⟩ 2) := by
  have : (iblk m c 4 t : S32x128.Idx → EReal) (ix2 a b) = (V m c main_v43 : S32x128.Idx → EReal) (ix2 a b) := by
    blk_ext [iblk, idx4 t]
  rw [this, V_v43]
  pointwise

/-- Window 5's block at row `a`, lane `b` is the opacity of gaussian `128 a + b`. -/
theorem in5 (c : Dev nD) (t : Fin (cfg0 (F := Ideal)).N) (a : Fin 32) (b : Fin 128) :
    (iblk m c 5 t : S32x128.Idx → EReal) (ix2 a b) = opc m c (ix1 ⟨a * 128 + b, by omega⟩) := by
  have : (iblk m c 5 t : S32x128.Idx → EReal) (ix2 a b) = (V m c main_v44 : S32x128.Idx → EReal) (ix2 a b) := by
    blk_ext [iblk, idx5 t]
  rw [this, V_v44]
  pointwise

/-- Window 6's block is the colours. -/
theorem in6 (c : Dev nD) (t : Fin (cfg0 (F := Ideal)).N) (n : Fin 4096) (k : Fin 3) :
    (iblk m c 6 t : S4096x3.Idx → EReal) (ix2 n k) = colr m c (ix2 n k) := by
  have : (iblk m c 6 t : S4096x3.Idx → EReal) (ix2 n k) = (V m c main_v21 : S4096x3.Idx → EReal) (ix2 n k) := by
    blk_ext [iblk, idx6 t]
  rw [this, V_v21]

/-! ### The picture -/

/-- The grid point's own coordinate is its number. -/
theorem coord0 : ∀ t : Fin grid0.N, (grid0.coords t 0).val = t.val := by decide +kernel

/-- The row coordinate the body computes is the middle of the grid point's row. -/
theorem row_mid (i : grid0.Coords) : k0_pay1 (F := Ideal) i = mid (i 0).val := by
  pointwise [k0_pay1]
  rfl

/-- The lane coordinates the body computes are the middles of the pixels. -/
theorem lane_mid (w : Fin 256) : k0_pay2 (F := Ideal) (ix2 w 0) = mid w.val := by
  pointwise [k0_pay2]
  rfl

/-- The opacities the body sees at a grid point are those of the sorted gaussians at its row. -/
theorem al_alpha (c : Dev nD) (t : Fin (cfg0 (F := Ideal)).N) (w : Fin 256) :
    al (grid0.coords t) (iblk m c 0 t) (iblk m c 1 t) (iblk m c 2 t) (iblk m c 3 t) (iblk m c 4 t) (iblk m c 5 t) w
      = alpha (mean m c) (con m c) (opc m c) t.val w.val := by
  funext n
  unfold al alpha
  split
  · rename_i h
    have e : ∀ (h' : n / 128 * 128 + n % 128 < 4096), (⟨n / 128 * 128 + n % 128, h'⟩ : Fin 4096) = ⟨n, h⟩ :=
      fun _ => Fin.ext (Nat.div_add_mod' n 128)
    rw [row_mid, lane_mid, in0, in1, in2, in3, in4, in5, e, coord0]
  · rfl

/-- The colours the body sees are those of the sorted gaussians. -/
theorem col_shade (c : Dev nD) (t : Fin (cfg0 (F := Ideal)).N) (k : Fin 3) : col (iblk m c 6 t) k = shade (colr m c) k := by
  funext n
  unfold col shade
  split
  · exact in6 m c t _ k
  · rfl

/-- The picture as an array. -/
def img (c : Dev nD) : S256x256x3.Idx → EReal := fun y => picture (mean m c) (con m c) (colr m c) (opc m c) (y 0).val (y 1).val (y 2)

/-- The output window's block at a grid point is that row of the picture. -/
theorem idx7 : ∀ t : Fin (cfg0 (F := Ideal)).N, win0_7.index t = ![t.val, 0, 0] :=
  (by decide +kernel : ∀ t : Fin grid0.N, win0_7.index t = ![t.val, 0, 0])

/-- After the run the output array holds the picture. -/
theorem out_eq (c : Dev nD) : ((dats m 0 c).arrAt 7 (cfg0 (F := Ideal)).N : S256x256x3.Idx → EReal) = img m c := by
  refine (dats m 0 c).arrAt_eq_of_covers 7 _ (by decide +kernel) fun t hf y => ?_
  blk_simp
  rw [after7]
  idx_vars y
  have ht : (grid0.coords t 0).val = t.val := coord0 t
  have e : ((View.whole main_v45).slice (win0_7.rect t)).emb (ix3 y0 y1 y2) = (ix3 (⟨t.val, t.isLt⟩ : Fin 256) y1 y2 : S256x256x3.Idx) := by
    blk_ext [idx7 t]
  rw [outv_apply, al_alpha, col_shade]
  exact (congrArg (img m c) e).symm

end Cert.Proof.PI

end
-- ==== Proof.RI.Alpha.lean ====
/- The opacities the reference computes before its loop: every array it works on, as the loop finds it, and the opacity
   of each gaussian at each pixel. At the real scalars. -/
module

public import proofs.«01_k».proof.Proof.RI.Frame
public import proofs.«01_k».proof.Proof.Math.Blend
public import Idealize.ShloMosaic.Lib.Pointwise
public import Idealize.ShloMosaic.Lib.StableHlo.RunRead

@[expose] public section

set_option maxRecDepth 16384

noncomputable section

namespace Cert.Proof.RI

open Cert.ReferenceIdeal Cert.ReferenceIdeal.Gen Cert.ReferenceIdeal.Value
open Idealize.ShloMosaic Idealize.ShloMosaic.TcCoe Idealize.ShloMosaic.StableHlo
open Cert.Proof.Math

/-! ### The arrays in depth order -/

/-- The depth order: the gaussians' numbers sorted by depth. -/
def order (d : FVec Ideal S4096 .f32) : IVec S4096 32 := (Host.sort2 S4096 0 comparator_f32_i32_d0 d (iotaInDim S4096 32 0)).2

/-- The depth order as a column of row numbers, negative ones counted from the end. -/
def rows (d : FVec Ideal S4096 .f32) : IVec S4096x1 32 :=
  broadcastInDim S4096x1 ![0] bcast_S4096_S4096x1_0
    (select (cmpi .slt (order d) (broadcastInDim S4096 ![] bcast_S_S4096 (constantI S_ 32 0#32)))
      (addi (order d) (broadcastInDim S4096 ![] bcast_S_S4096 (constantI S_ 32 4096#32))) (order d))

/-- The means in depth order. -/
def mean (x : FVec Ideal S4096x2 .f32) (d : FVec Ideal S4096 .f32) : FVec Ideal S4096x2 .f32 :=
  Host.gather gather_S4096x2_S4096x1_S4096x2_1_0_n_n_0_1_12 x (rows d)
/-- The conics, or the colours, in depth order. -/
def trip (x : FVec Ideal S4096x3 .f32) (d : FVec Ideal S4096 .f32) : FVec Ideal S4096x3 .f32 :=
  Host.gather gather_S4096x3_S4096x1_S4096x3_1_0_n_n_0_1_13 x (rows d)
/-- The opacities in depth order. -/
def opc (x d : FVec Ideal S4096 .f32) : FVec Ideal S4096 .f32 :=
  Host.gather gather_S4096_S4096x1_S4096_n_0_n_n_0_1_1 x (rows d)

/-! ### The opacity, array by array -/

/-- The middles of the 256 pixels of a line. -/
def mids : FVec Ideal S256 .f32 := addf (sitofp .f32 (iotaInDim S256 32 0)) (broadcastInDim S256 ![] bcast_S_S256 (constant S_ .f32 0x3F000000#32))

/-- How far each pixel of a row lies from each gaussian's mean. -/
def dxs (me : FVec Ideal S4096x2 .f32) : FVec Ideal S4096x1x256 .f32 :=
  subf (broadcastInDim S4096x1x256 ![0, 1, 2] bcast_S1x1x256_S4096x1x256_0_1_2 (broadcastInDim S1x1x256 ![2] bcast_S256_S1x1x256_2 mids))
    (broadcastInDim S4096x1x256 ![0, 1, 2] bcast_S4096x1x1_S4096x1x256_0_1_2 (broadcastInDim S4096x1x1 ![0] bcast_S4096_S4096x1x1_0
      (shapeCast S4096 (extractStridedSlice S4096x1 ![0, 0] me slices_S4096x2_S4096x1_0_0) shapeCasts_S4096x1_S4096)))

/-- How far each row lies from each gaussian's mean. -/
def dys (me : FVec Ideal S4096x2 .f32) : FVec Ideal S4096x256x1 .f32 :=
  subf (broadcastInDim S4096x256x1 ![0, 1, 2] bcast_S1x256x1_S4096x256x1_0_1_2 (broadcastInDim S1x256x1 ![1] bcast_S256_S1x256x1_1 mids))
    (broadcastInDim S4096x256x1 ![0, 1, 2] bcast_S4096x1x1_S4096x256x1_0_1_2 (broadcastInDim S4096x1x1 ![0] bcast_S4096_S4096x1x1_0
      (shapeCast S4096 (extractStridedSlice S4096x1 ![0, 1] me slices_S4096x2_S4096x1_0_1) shapeCasts_S4096x1_S4096)))

/-- Column 0 of the conics, one number a gaussian. -/
def con0 (co : FVec Ideal S4096x3 .f32) : FVec Ideal S4096x1x1 .f32 :=
  broadcastInDim S4096x1x1 ![0] bcast_S4096_S4096x1x1_0 (shapeCast S4096 (extractStridedSlice S4096x1 ![0, 0] co slices_S4096x3_S4096x1_0_0) shapeCasts_S4096x1_S4096)
/-- Column 1 of the conics, one number a gaussian. -/
def con1 (co : FVec Ideal S4096x3 .f32) : FVec Ideal S4096x1x1 .f32 :=
  broadcastInDim S4096x1x1 ![0] bcast_S4096_S4096x1x1_0 (shapeCast S4096 (extractStridedSlice S4096x1 ![0, 1] co slices_S4096x3_S4096x1_0_1) shapeCasts_S4096x1_S4096)
/-- Column 2 of the conics, one number a gaussian. -/
def con2 (co : FVec Ideal S4096x3 .f32) : FVec Ideal S4096x1x1 .f32 :=
  broadcastInDim S4096x1x1 ![0] bcast_S4096_S4096x1x1_0 (shapeCast S4096 (extractStridedSlice S4096x1 ![0, 2] co slices_S4096x3_S4096x1_0_2) shapeCasts_S4096x1_S4096)

/-- The exponent of each gaussian at each pixel. -/
def sigs (me : FVec Ideal S4096x2 .f32) (co : FVec Ideal S4096x3 .f32) : FVec Ideal S4096x256x256 .f32 :=
  addf (mulf (broadcastInDim S4096x256x256 ![] bcast_S_S4096x256x256 (constant S_ .f32 0x3F000000#32))
      (addf (broadcastInDim S4096x256x256 ![0, 1, 2] bcast_S4096x1x256_S4096x256x256_0_1_2
          (mulf (mulf (broadcastInDim S4096x1x256 ![0, 1, 2] bcast_S4096x1x1_S4096x1x256_0_1_2 (con0 co)) (dxs me)) (dxs me)))
        (broadcastInDim S4096x256x256 ![0, 1, 2] bcast_S4096x256x1_S4096x256x256_0_1_2
          (mulf (broadcastInDim S4096x256x1 ![0, 1, 2] bcast_S4096x1x1_S4096x256x1_0_1_2 (con2 co)) (mulf (dys me) (dys me))))))
    (mulf (broadcastInDim S4096x256x256 ![0, 1, 2] bcast_S4096x1x256_S4096x256x256_0_1_2
        (mulf (broadcastInDim S4096x1x256 ![0, 1, 2] bcast_S4096x1x1_S4096x1x256_0_1_2 (con1 co)) (dxs me)))
      (broadcastInDim S4096x256x256 ![0, 1, 2] bcast_S4096x256x1_S4096x256x256_0_1_2 (dys me)))

/-- The opacity before the test. -/
def glows (s : FVec Ideal S4096x256x256 .f32) (op : FVec Ideal S4096 .f32) : FVec Ideal S4096x256x256 .f32 :=
  minimumf (broadcastInDim S4096x256x256 ![] bcast_S_S4096x256x256 (constant S_ .f32 0x3F7D70A4#32))
    (mulf (broadcastInDim S4096x256x256 ![0, 1, 2] bcast_S4096x1x1_S4096x256x256_0_1_2 (broadcastInDim S4096x1x1 ![0] bcast_S4096_S4096x1x1_0 op))
      (Host.exp (Host.negf s)))

/-- The opacity after the test. -/
def tested (s g : FVec Ideal S4096x256x256 .f32) : FVec Ideal S4096x256x256 .f32 :=
  select (andi (cmpf .oge s (broadcastInDim S4096x256x256 ![] bcast_S_S4096x256x256 (constant S_ .f32 0x00000000#32)))
      (cmpf .oge g (broadcastInDim S4096x256x256 ![] bcast_S_S4096x256x256 (constant S_ .f32 0x3B808081#32)))) g
    (broadcastInDim S4096x256x256 ![] bcast_S_S4096x256x256 (constant S_ .f32 0x00000000#32))

/-- Entry `w` of the middles is the middle of pixel `w`. -/
theorem mids_apply (w : Fin 256) : mids (ix1 w) = mid w.val := by
  pointwise [mids]
  rfl

/-- The horizontal distance, entry by entry. -/
theorem dxs_apply (me : FVec Ideal S4096x2 .f32) (g : Fin 4096) (z : Fin 1) (w : Fin 256) : dxs me (ix3 g z w) = mid w.val - me (ix2 g 0) := by
  pointwise [dxs, mids_apply]
/-- The vertical distance, entry by entry. -/
theorem dys_apply (me : FVec Ideal S4096x2 .f32) (g : Fin 4096) (h : Fin 256) (z : Fin 1) : dys me (ix3 g h z) = mid h.val - me (ix2 g 1) := by
  pointwise [dys, mids_apply]
/-- The first conic column, entry by entry. -/
theorem con0_apply (co : FVec Ideal S4096x3 .f32) (g : Fin 4096) (y z : Fin 1) : con0 co (ix3 g y z) = co (ix2 g 0) := by
  pointwise [con0]
/-- The second conic column, entry by entry. -/
theorem con1_apply (co : FVec Ideal S4096x3 .f32) (g : Fin 4096) (y z : Fin 1) : con1 co (ix3 g y z) = co (ix2 g 1) := by
  pointwise [con1]
/-- The third conic column, entry by entry. -/
theorem con2_apply (co : FVec Ideal S4096x3 .f32) (g : Fin 4096) (y z : Fin 1) : con2 co (ix3 g y z) = co (ix2 g 2) := by
  pointwise [con2]

/-- The exponents' array holds each gaussian's exponent at each pixel. -/
theorem sigs_apply (me : FVec Ideal S4096x2 .f32) (co : FVec Ideal S4096x3 .f32) (g : Fin 4096) (h w : Fin 256) :
    sigs me co (ix3 g h w) = sigma (mid h.val) (mid w.val) (me (ix2 g 0)) (me (ix2 g 1)) (co (ix2 g 0)) (co (ix2 g 1)) (co (ix2 g 2)) := by
  pointwise [sigs, dxs_apply, dys_apply, con0_apply, con1_apply, con2_apply]
  rfl

/-- The tested opacities hold each gaussian's opacity at each pixel. -/
theorem opac_apply (me : FVec Ideal S4096x2 .f32) (co : FVec Ideal S4096x3 .f32) (op : FVec Ideal S4096 .f32) (g : Fin 4096) (h w : Fin 256) :
    tested (sigs me co) (glows (sigs me co) op) (ix3 g h w) = alpha me co op h.val w.val g.val := by
  pointwise [tested, glows, sigs_apply]
  unfold alpha opac glow
  rw [dif_pos g.isLt]
  generalize sigma (mid h.val) (mid w.val) (me (ix2 g 0)) (me (ix2 g 1)) (co (ix2 g 0)) (co (ix2 g 1)) (co (ix2 g 2)) = s
  generalize min (Ideal.ofBits FTy.f32 1065185444#32) (op (ix1 g) * Ideal.exp (-s)) = a
  by_cases h1 : (0 : EReal) ≤ s <;> by_cases h2 : Ideal.ofBits FTy.f32 998277249#32 ≤ a <;> simp [h1, h2, IntOp.andi, Scalar.select]

variable (m : (ℓ : Loc nD τ sig) → Buf (Elt Ideal) ℓ)

/-- The arguments as core `c` has them. -/
abbrev arg (c : Dev nD) (r : Ref sig .tc) := m ((c.tc : Thread nD τ).loc r)

/-- The array of opacities as the loop finds it. -/
theorem entry_v87 (c : Dev nD) : (entryContents preI m c (Proc.devRef .tc main_v87) : S4096x256x256.Idx → EReal)
    = tested (sigs (mean (arg m c main_arg0) (arg m c main_arg4)) (trip (arg m c main_arg1) (arg m c main_arg4)))
        (glows (sigs (mean (arg m c main_arg0) (arg m c main_arg4)) (trip (arg m c main_arg1) (arg m c main_arg4))) (opc (arg m c main_arg3) (arg m c main_arg4))) := by
  simp only [entryContents, afterL_cons, afterL_nil]
  after_reads_simp
  rfl

/-- The array of colours as the loop finds it. -/
theorem entry_v21 (c : Dev nD) : (entryContents preI m c (Proc.devRef .tc main_v21) : S4096x3.Idx → EReal) = trip (arg m c main_arg2) (arg m c main_arg4) := by
  simp only [entryContents, afterL_cons, afterL_nil]
  after_reads_simp
  rfl

/-- The factors the loop multiplies: one less the opacity. -/
theorem entry_v92_0 (c : Dev nD) : (entryContents preI m c (Proc.devRef .tc main_v92_0) : S4096x256x256.Idx → EReal)
    = subf (F := Ideal) (φ := .f32) (broadcastInDim S4096x256x256 ![] bcast_S_S4096x256x256 (constant S_ .f32 0x3F800000#32)) (entryContents preI m c (Proc.devRef .tc main_v87)) := by
  simp only [entryContents, afterL_cons, afterL_nil]
  after_reads_simp
  rfl

/-- The running product starts at one. -/
theorem entry_v92_2 (c : Dev nD) : (entryContents preI m c (Proc.devRef .tc main_v92_2) : S256x256.Idx → EReal)
    = broadcastInDim S256x256 ![] bcast_S_S256x256 (constant (F := Ideal) S_ .f32 0x3F800000#32) := by
  simp only [entryContents, afterL_cons, afterL_nil]
  after_reads_simp
  rfl

end Cert.Proof.RI

end
-- ==== Proof.RI.Value.lean ====
/- What the reference's loop leaves, trip by trip, and so the picture it returns. At the real scalars. -/
module

public import proofs.«01_k».proof.Proof.RI.Alpha
public import Idealize.ShloMosaic.Lib.DynamicIndex
public import Idealize.ShloMosaic.Lib.WordCmp
public import Idealize.ShloMosaic.Lib.WordArith.Masks

@[expose] public section

set_option maxRecDepth 16384

noncomputable section

namespace Cert.Proof.RI

open Cert.ReferenceIdeal Cert.ReferenceIdeal.Gen Cert.ReferenceIdeal.Value
open Idealize.ShloMosaic Idealize.ShloMosaic.TcCoe Idealize.ShloMosaic.StableHlo
open Cert.Proof.Math

/-! ### One layer of a stack of 4096 -/

/-- A layer fits the stack wherever it starts. -/
theorem fits (k : ℕ) (hk : k < 4096) : S4096x256x256.Slices ![k, 0, 0] S1x256x256 :=
  ⟨rfl, fun a => by
    fin_cases a
    · show k + 1 ≤ 4096
      omega
    · exact le_refl 256
    · exact le_refl 256⟩

/-- Reading layer `k`. -/
theorem pick_apply (x : S4096x256x256.Idx → EReal) (start : Fin 3 → ℤ) (k : ℕ) (hk : k < 4096) (e : ∀ a, start a = ((![k, 0, 0] : Fin 3 → ℕ) a : ℤ)) (h w : Fin 256) :
    shapeCast S256x256 (Host.dynamicSlice S1x256x256 x start sliceFits_S4096x256x256_S1x256x256) shapeCasts_S1x256x256_S256x256 (ix2 h w) = x (ix3 ⟨k, hk⟩ h w) := by
  rw [Host.dynamicSlice_eq_extractStridedSlice S1x256x256 x start ![k, 0, 0] _ (fits k hk) e]
  pointwise

/-- Writing layer `k`. -/
theorem put_apply (x : S4096x256x256.Idx → EReal) (u : S256x256.Idx → EReal) (start : Fin 3 → ℤ) (k : ℕ) (hk : k < 4096) (e : ∀ a, start a = ((![k, 0, 0] : Fin 3 → ℕ) a : ℤ))
    (g : Fin 4096) (h w : Fin 256) :
    Host.dynamicUpdateSlice x (broadcastInDim S1x256x256 ![1, 2] bcast_S256x256_S1x256x256_1_2 u) start updateFits_S4096x256x256_S1x256x256 (ix3 g h w)
      = if g.val = k then u (ix2 h w) else x (ix3 g h w) := by
  rw [WordCmp.dynamicUpdateSlice_eq_update x _ start _ ![k, 0, 0] (fits k hk) e]
  by_cases hg : g.val = k
  · rw [if_pos hg]
    subst hg
    pointwise
    rw [dif_pos ⟨le_rfl, Nat.lt_succ_self _⟩]
  · rw [if_neg hg]
    pointwise
    rw [dif_neg fun h => hg (by omega)]

variable (m : (ℓ : Loc nD τ sig) → Buf (Elt Ideal) ℓ)

/-- The starts the loop uses at trip `k` are layer `k`'s. -/
theorem starts (c : Dev nD) (k : ℕ) (hk : k < 4096) (a : Fin 3) :
    (((![atK m k c (Proc.devRef .tc main_v92_1), constantI S_ 32 0#32, constantI S_ 32 0#32] : Fin 3 → (⟨S_, .i32⟩ : BufTy).Contents (Elt Ideal))) a (Shape.Idx.first h_S_)).toInt
      = ((![k, 0, 0] : Fin 3 → ℕ) a : ℤ) := by
  rw [atK_ctr]
  fin_cases a
  · show (Scf.iv 0#32 1#32 k).toInt = k
    unfold Scf.iv
    rw [BitVec.mul_one, BitVec.zero_add, toInt_ofNat_of_lt (by omega)]
  · rfl
  · rfl

/-- The opacities at a pixel. -/
abbrev al (c : Dev nD) (h w : ℕ) : ℕ → EReal :=
  alpha (mean (arg m c main_arg0) (arg m c main_arg4)) (trip (arg m c main_arg1) (arg m c main_arg4)) (opc (arg m c main_arg3) (arg m c main_arg4)) h w

/-- Each entry of the opacities' array is that gaussian's opacity at that pixel. -/
theorem v87_apply (c : Dev nD) (g : Fin 4096) (h w : Fin 256) :
    (entryContents preI m c (Proc.devRef .tc main_v87) : S4096x256x256.Idx → EReal) (ix3 g h w) = al m c h.val w.val g.val := by
  rw [entry_v87, opac_apply]

/-- The stack of factors is the same before every trip: one less the opacity. -/
theorem factor_apply (c : Dev nD) (k : ℕ) (g : Fin 4096) (h w : Fin 256) :
    (atK m k c (Proc.devRef .tc main_v92_0) : S4096x256x256.Idx → EReal) (ix3 g h w) = 1 - al m c h.val w.val g.val := by
  have : (atK m k c (Proc.devRef .tc main_v92_0) : S4096x256x256.Idx → EReal) = entryContents preI m c (Proc.devRef .tc main_v92_0) := by
    induction k with
    | zero => rfl
    | succ k ih => exact ((trip_agree (atK m k c) main_v92_0 (by decide)).trans (STEP_main_v92_0 _)).trans ih
  rw [this, entry_v92_0]
  pointwise
  rw [v87_apply]

/-- The running product before trip `k`. -/
def prodAt (c : Dev nD) (k : ℕ) : S256x256.Idx → EReal := atK m k c (Proc.devRef .tc main_v92_2)

/-- One trip's product. -/
theorem product_apply (c : Dev nD) (k : ℕ) (hk : k < 4096) (h w : Fin 256) :
    (res_main_while0b_v109 (atK m k c) : S256x256.Idx → EReal) (ix2 h w)
      = prodAt m c k (ix2 h w) * (1 - al m c h.val w.val k) := by
  have : (res_main_while0b_v108 (atK m k c) : S256x256.Idx → EReal) (ix2 h w) = 1 - al m c h.val w.val k := by
    unfold res_main_while0b_v108
    exact (pick_apply _ _ k hk (starts m c k hk) h w).trans (factor_apply m c k ⟨k, hk⟩ h w)
  rw [← this]
  rfl

/-- Before trip `k` the running product is the light left after `k` gaussians. -/
theorem running (c : Dev nD) (h w : Fin 256) : ∀ k, k ≤ 4096 →
    prodAt m c k (ix2 h w) = light (al m c h.val w.val) k
  | 0, _ => by
    show (entryContents preI m c (Proc.devRef .tc main_v92_2) : S256x256.Idx → EReal) (ix2 h w) = _
    rw [entry_v92_2, light_zero]
    pointwise
  | k + 1, hk => by
    have e := (trip_agree (atK m k c) main_v92_2 (by decide)).trans (STEP_main_v92_2 _)
    refine (congrFun e (ix2 h w)).trans ?_
    unfold step_main_v92_2
    refine (product_apply m c k (by omega) h w).trans ?_
    rw [running c h w k (by omega), light_succ]

/-- Before trip `k` the first `k` layers of the stack hold the light after each gaussian. -/
theorem stacked (c : Dev nD) (h w : Fin 256) : ∀ k, k ≤ 4096 → ∀ g : Fin 4096, g.val < k →
    (atK m k c (Proc.devRef .tc main_v92_4) : S4096x256x256.Idx → EReal) (ix3 g h w) = light (al m c h.val w.val) (g.val + 1)
  | 0, _, g, hg => absurd hg (by omega)
  | k + 1, hk, g, hg => by
    have e := (trip_agree (atK m k c) main_v92_4 (by decide)).trans (STEP_main_v92_4 _)
    refine (congrFun e (ix3 g h w)).trans ?_
    unfold step_main_v92_4
    refine (put_apply _ _ _ k (by omega) (starts m c k (by omega)) g h w).trans ?_
    split
    · rename_i hgk
      rw [product_apply m c k (by omega), running m c h w k (by omega), light_succ, hgk]
    · exact stacked c h w k (by omega) g (by omega)

/-! ### After the loop -/

/-- The light before each gaussian: ones, then the stack one layer down. -/
def before (s : S4096x256x256.Idx → EReal) : S4096x256x256.Idx → EReal :=
  concatenate S4096x256x256 0 [⟨S1x256x256, broadcastInDim S1x256x256 ![] bcast_S_S1x256x256 (constant (F := Ideal) S_ .f32 0x3F800000#32)⟩,
    ⟨S4095x256x256, extractStridedSlice S4095x256x256 ![0, 0, 0] s slices_S4096x256x256_S4095x256x256_0_0_0⟩] concatenates_S1x256x256_S4095x256x256_S4096x256x256_d0

/-- The weights: opacity times the light before, where the light after is bright enough. -/
def weights (a s : FVec Ideal S4096x256x256 .f32) : FVec Ideal S4096x256x256 .f32 :=
  select (cmpf .oge s (broadcastInDim S4096x256x256 ![] bcast_S_S4096x256x256 (constant S_ .f32 0x38D1B717#32))) (mulf a (before s))
    (broadcastInDim S4096x256x256 ![] bcast_S_S4096x256x256 (constant S_ .f32 0x00000000#32))

/-- The sum of the weighted colours. -/
def summed (a s : FVec Ideal S4096x256x256 .f32) (co : FVec Ideal S4096x3 .f32) : FVec Ideal S256x256x3 .f32 :=
  Host.dotGeneral dot_S4096x256x256_S4096x3_S256x256x3_0_0_12_1_n_n none (weights a s) co

/-- The background is black, so what is left of the light adds nothing. -/
theorem black (x : FVec Ideal S256x256x3 .f32) (u : FVec Ideal S256x256 .f32) (h w : Fin 256) (k : Fin 3) :
    addf x (mulf (broadcastInDim S256x256x3 ![0, 1, 2] bcast_S256x256x1_S256x256x3_0_1_2 (broadcastInDim S256x256x1 ![0, 1] bcast_S256x256_S256x256x1_0_1 u))
      (broadcastInDim S256x256x3 ![0, 1, 2] bcast_S1x1x3_S256x256x3_0_1_2
        (broadcastInDim S1x1x3 ![2] bcast_S3_S1x1x3_2 (broadcastInDim S3 ![] bcast_S_S3 (constant S_ .f32 0x00000000#32))))) (ix3 h w k) = x (ix3 h w k) := by
  pointwise
  rw [mul_zero, add_zero]

/-- The result is the sum of the weighted colours, of the loop's stack as it leaves it. -/
theorem final_v107 (c : Dev nD) (h w : Fin 256) (k : Fin 3) :
    (finalContents condOps preI bodyI postI 4096 m c (Proc.devRef .tc main_v107) : S256x256x3.Idx → EReal) (ix3 h w k)
      = summed (exitV m c (Proc.devRef .tc main_v87)) (exitV m c (Proc.devRef .tc main_v92_4)) (exitV m c (Proc.devRef .tc main_v21)) (ix3 h w k) := by
  show (afterL postI (exitV m c) (Proc.devRef .tc main_v107) : S256x256x3.Idx → EReal) (ix3 h w k) = _
  generalize exitV m c = V
  simp only [afterL_cons, afterL_nil]
  after_reads_simp
  have e93 : (upto hostOps0_4 V 3 (Proc.devRef .tc main_v93) : S1x256x256.Idx → EReal) = broadcastInDim S1x256x256 ![] bcast_S_S1x256x256 (constant (F := Ideal) S_ .f32 0x3F800000#32) := by
    after_reads_simp
  have e94 : (upto hostOps0_4 V 3 (Proc.devRef .tc main_v94) : S4095x256x256.Idx → EReal) = extractStridedSlice S4095x256x256 ![0, 0, 0] (V (Proc.devRef .tc main_v92_4)) slices_S4096x256x256_S4095x256x256_0_0_0 := by
    after_reads_simp
  rw [e93, e94]
  refine (black _ _ h w k).trans ?_
  rfl

/-- The layer before, at an index. -/
theorem before_apply (s : S4096x256x256.Idx → EReal) (f : ℕ → EReal) (h w : Fin 256) (hs : ∀ g : Fin 4096, s (ix3 g h w) = light f (g.val + 1)) (g : Fin 4096) :
    before s (ix3 g h w) = light f g.val := by
  pointwise [before]
  obtain ⟨n, hn⟩ := g
  split
  · rename_i h1
    have : n = 0 := by simpa using h1
    subst this
    rfl
  · rename_i h1
    have h2 : 1 ≤ n := Nat.le_of_not_lt h1
    rw [hs]
    exact congrArg (light f) (Nat.sub_add_cancel h2)

/-- The sum of the weighted colours is the blend, once the opacities and the stack hold what they should. -/
theorem summed_apply (a s : FVec Ideal S4096x256x256 .f32) (co : FVec Ideal S4096x3 .f32) (f : ℕ → EReal) (h w : Fin 256) (k : Fin 3)
    (ha : ∀ g : Fin 4096, a (ix3 g h w) = f g.val) (hs : ∀ g : Fin 4096, s (ix3 g h w) = light f (g.val + 1)) :
    summed a s co (ix3 h w k) = blend (Ideal.ofBits .f32 0x38D1B717#32) f (shade co k) 4096 := by
  have hw : ∀ g : Fin 4096, weights a s (ix3 g h w) = weight (Ideal.ofBits .f32 0x38D1B717#32) f g.val := by
    intro g
    pointwise [weights, before_apply s f h w hs]
    rw [hs, ha]
    rfl
  unfold blend
  rw [Finset.sum_range]
  pointwise [summed]
  refine Finset.sum_congr rfl fun g _ => ?_
  rw [hw]
  unfold shade
  rw [dif_pos g.isLt]

/-- A buffer the loop leaves alone is, after it, as before it. -/
theorem exit_keep (c : Dev nD) (r : Ref sig .tc) (hr : r ∉ loopW) : exitV m c (Proc.devRef .tc r) = entryContents preI m c (Proc.devRef .tc r) :=
  (after_of_writes_sub condOps _ condOps_writes fun h => hr (List.mem_append_left _ h)).trans (loop_keep m c r hr 4096)

/-- The reference's result, cell by cell, is the picture of the sorted gaussians. -/
theorem out_apply (c : Dev nD) (h w : Fin 256) (k : Fin 3) :
    (finalContents condOps preI bodyI postI 4096 m c (Proc.devRef .tc main_v107) : S256x256x3.Idx → EReal) (ix3 h w k)
      = picture (mean (arg m c main_arg0) (arg m c main_arg4)) (trip (arg m c main_arg1) (arg m c main_arg4)) (trip (arg m c main_arg2) (arg m c main_arg4))
          (opc (arg m c main_arg3) (arg m c main_arg4)) h.val w.val k := by
  have h4 : exitV m c (Proc.devRef .tc main_v92_4) = atK m 4096 c (Proc.devRef .tc main_v92_4) := cond_keeps _ main_v92_4 (by decide)
  rw [final_v107, exit_keep m c main_v87 (by decide +kernel), exit_keep m c main_v21 (by decide +kernel), h4, entry_v21]
  exact summed_apply _ _ _ (al m c h.val w.val) h w k (fun g => v87_apply m c g h w) (fun g => stacked m c h w 4096 le_rfl g g.isLt)

end Cert.Proof.RI

end
-- ==== Proof.Same.lean ====
/- The kernel's picture and the reference's are one picture. At the real scalars. -/
module

public import proofs.«01_k».proof.Defs
public import proofs.«01_k».proof.Proof.PI.Out
public import proofs.«01_k».proof.Proof.RI.Value

@[expose] public section

set_option maxRecDepth 16384

noncomputable section

namespace Cert.Proof

open Idealize.ShloMosaic Idealize.ShloMosaic.TcCoe Idealize.SL.Sem

/-- From equal arguments, the reference's result is the kernel's picture. -/
theorem same (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) :
    (StableHlo.finalContents Cert.ReferenceIdeal.Value.condOps Cert.ReferenceIdeal.Value.preI Cert.ReferenceIdeal.Value.bodyI Cert.ReferenceIdeal.Value.postI 4096 m' c
        (Proc.devRef .tc Cert.ReferenceIdeal.main_v107) : Cert.KernelIdeal.S256x256x3.Idx → EReal) = PI.img m c := by
  funext y
  idx_vars y
  refine (RI.out_apply m' c y0 y1 y2).trans ?_
  unfold RI.arg
  rw [h0, h1, h2, h3, h4]
  rfl

/-- The kernel and the reference end with the same picture, whatever the arguments. -/
theorem algebraic [hKernelIdeal : Cert.KernelIdeal.Facts] [hReferenceIdeal : Cert.ReferenceIdeal.Facts] : Cert.algebraic_KernelIdeal_ReferenceIdeal := by
  intro m g m' g' _ hm
  refine ⟨fun c => PI.img m c, (θ_run _ _ _).mono (fun r h c => ⟨(h c).1.trans (PI.out_eq m c), (h c).2⟩) (PI.run_out m g),
    (θ_run _ _ _).mono (fun r h c => ⟨(h c).1.trans (same m m' c (hm c).1 (hm c).2.1 (hm c).2.2.1 (hm c).2.2.2.1 (hm c).2.2.2.2), (h c).2⟩) (RI.run_out m' g')⟩

end Cert.Proof

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.ReferenceIdeal
public import proofs.«01_k».proof.Proof.Gen.ReferenceIdeal.Run
public import proofs.«01_k».proof.Proof.P.Frame
public import proofs.«01_k».proof.Proof.PI.Frame
public import proofs.«01_k».proof.Proof.RI.Frame
public import proofs.«01_k».proof.Proof.Same
public import Idealize.ShloMosaic.Adequacy
public import Idealize.ShloMosaic.Init

@[expose] public section

noncomputable section

namespace Cert.Proof

open Idealize.ShloMosaic Idealize.SL.Sem Cert.Kernel

theorem claim : Cert.Claim :=
  ⟨Cert.Kernel.Gen.facts, Cert.KernelIdeal.Gen.facts, Cert.ReferenceIdeal.Gen.facts,
    fun m ρ _ => P.frame m ρ, fun m ρ _ => PI.frame m ρ, fun m ρ _ => RI.frame m ρ, trivial, algebraic⟩

end Cert.Proof

end
